-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_quotients_below_infinity [hPre_quotients_below_infinity : Cert.Pre_quotients_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_quotients_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_quotients_below_infinity [hPre_quotients_below_infinity : Cert.Pre_quotients_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_quotients_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_quotients_below_infinity [hKernelIdeal : Cert.KernelIdeal.Facts] [hPre_quotients_below_infinity : Cert.Pre_quotients_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_quotients_below_infinity m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_quotients_below_infinity [hReferenceIdeal : Cert.ReferenceIdeal.Facts] [hPre_quotients_below_infinity : Cert.Pre_quotients_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_quotients_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_quotients_below_infinity [hKernelIdeal : Cert.KernelIdeal.Facts] [hReferenceIdeal : Cert.ReferenceIdeal.Facts] [hPre_quotients_below_infinity : Cert.Pre_quotients_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_quotients_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_quotients_below_infinity : Cert.Pre_quotients_below_infinity.Facts),
    quiescent_Kernel (hKernel := hKernel)
    ∧ quiescent_KernelIdeal (hKernelIdeal := hKernelIdeal)
    ∧ quiescent_KernelIdeal_pre_quotients_below_infinity (hKernelIdeal := hKernelIdeal) (hPre_quotients_below_infinity := hPre_quotients_below_infinity)
    ∧ quiescent_ReferenceIdeal (hReferenceIdeal := hReferenceIdeal)
    ∧ quiescent_ReferenceIdeal_pre_quotients_below_infinity (hReferenceIdeal := hReferenceIdeal) (hPre_quotients_below_infinity := hPre_quotients_below_infinity)
    ∧ preserves_Kernel_KernelIdeal
    ∧ algebraic_KernelIdeal_ReferenceIdeal_pre_quotients_below_infinity (hKernelIdeal := hKernelIdeal) (hReferenceIdeal := hReferenceIdeal) (hPre_quotients_below_infinity := hPre_quotients_below_infinity)
-- ==== Pre_quotients_below_infinity.lean ====
abbrev S320000x16 : Shape := ⟨2, ![320000, 16]⟩
abbrev S_ : Shape := ⟨0, ![]⟩

class Facts : Prop where
  bcast_S_S320000x16 : S_.BroadcastsInDim S320000x16 (![] : Fin 0 → Fin S320000x16.rank)

variable [Facts]

def fn {F : FTy → Type} [FloatOps F] (main_arg0 : FVec F S320000x16 .f32) (main_arg1 : FVec F S320000x16 .f32) (main_arg2 : IVec S_ 32) : IVec S320000x16 1 :=
  let main_c : IVec S_ 32 := constantI S_ 32 0#32
  let main_v0 : IVec S_ 1 := cmpi .ne main_arg2 main_c
  let main_v1 : FVec F S_ .f32 := sitofp .f32 main_arg2
  let main_v2 : FVec F S320000x16 .f32 := broadcastInDim S320000x16 ![] bcast_S_S320000x16 main_v1
  let main_v3 : FVec F S320000x16 .f32 := Host.divf main_arg0 main_v2
  let main_cst : FVec F S_ .f32 := constant S_ .f32 0x7F800000#32
  let main_v4 : FVec F S320000x16 .f32 := broadcastInDim S320000x16 ![] bcast_S_S320000x16 main_cst
  let main_v5 : IVec S320000x16 1 := cmpf .olt main_v3 main_v4
  let main_v6 : IVec S320000x16 1 := broadcastInDim S320000x16 ![] bcast_S_S320000x16 main_v0
  let main_v7 : IVec S320000x16 1 := andi main_v6 main_v5
  let main_v8 : FVec F S_ .f32 := sitofp .f32 main_arg2
  let main_v9 : FVec F S320000x16 .f32 := broadcastInDim S320000x16 ![] bcast_S_S320000x16 main_v8
  let main_v10 : FVec F S320000x16 .f32 := Host.divf main_arg1 main_v9
  let main_cst_0 : FVec F S_ .f32 := constant S_ .f32 0x7F800000#32
  let main_v11 : FVec F S320000x16 .f32 := broadcastInDim S320000x16 ![] bcast_S_S320000x16 main_cst_0
  let main_v12 : IVec S320000x16 1 := cmpf .olt main_v10 main_v11
  let main_v13 : IVec S320000x16 1 := andi main_v7 main_v12
  main_v13
-- ==== Kernel.lean ====
abbrev S320000x16 : Shape := ⟨2, ![320000, 16]⟩
abbrev S_ : Shape := ⟨0, ![]⟩
abbrev S16 : Shape := ⟨1, ![16]⟩
abbrev S2x500x16 : Shape := ⟨3, ![2, 500, 16]⟩
abbrev S2 : Shape := ⟨1, ![2]⟩
abbrev S1x500x16 : Shape := ⟨3, ![1, 500, 16]⟩
abbrev S500x16 : Shape := ⟨2, ![500, 16]⟩
abbrev S1 : Shape := ⟨1, ![1]⟩
abbrev S1x1x16 : Shape := ⟨3, ![1, 1, 16]⟩

abbrev nBuf : Table → Nat
  | .hbm => 10
  | .local .scVector .vmem => 8
  | _ => 0

abbrev bufTy : (tb : Table) → Fin (nBuf tb) → BufTy
  | .hbm, ⟨0, _⟩ => ⟨S320000x16, .f32⟩
  | .hbm, ⟨1, _⟩ => ⟨S320000x16, .f32⟩
  | .hbm, ⟨2, _⟩ => ⟨S_, .i32⟩
  | .hbm, ⟨3, _⟩ => ⟨S_, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S320000x16, .f32⟩
  | .hbm, ⟨9, _⟩ => ⟨S320000x16, .f32⟩
  | .local .scVector .vmem, ⟨0, _⟩ => ⟨S16, .f32⟩
  | .local .scVector .vmem, ⟨1, _⟩ => ⟨S2x500x16, .f32⟩
  | .local .scVector .vmem, ⟨2, _⟩ => ⟨S2x500x16, .f32⟩
  | .local .scVector .vmem, ⟨3, _⟩ => ⟨S16, .f32⟩
  | .local .scVector .vmem, ⟨4, _⟩ => ⟨S16, .f32⟩
  | .local .scVector .vmem, ⟨5, _⟩ => ⟨S2x500x16, .f32⟩
  | .local .scVector .vmem, ⟨6, _⟩ => ⟨S2x500x16, .f32⟩
  | .local .scVector .vmem, ⟨7, _⟩ => ⟨S16, .f32⟩
  | _, _ => ⟨S320000x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v3_scv : Ref sig .scVector := ⟨.hbm, 7, rfl⟩
abbrev main_arg0_scv : Ref sig .scVector := ⟨.hbm, 0, rfl⟩
abbrev main_v4_scv : Ref sig .scVector := ⟨.hbm, 8, rfl⟩
abbrev main_arg1_scv : Ref sig .scVector := ⟨.hbm, 1, rfl⟩
abbrev main_v5_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch5 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch5 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v12 : BitVec 32 := Scalar.muli v1 c10000_i32
  let c0_i32 : BitVec 32 := 0#32
  let v13 : BitVec 32 := Scalar.addi v12 c0_i32
  let c0_i32_5 : BitVec 32 := 0#32
  ![v13.toNat, 0]
@[reducible] def k0_t1_loop : Scf.Loop 32 :=
  let c0_i32_10 : BitVec 32 := 0#32
  let c20_i32 : BitVec 32 := 20#32
  let v22 : BitVec 32 := Scalar.addi c0_i32_10 c20_i32
  let c1_i32_11 : BitVec 32 := 1#32
  ⟨c0_i32_10, v22, c1_i32_11⟩
def k0_cond1 (k0_t1 : Fin k0_t1_loop.trips) : BitVec 1 :=
  let c0_i32_10 : BitVec 32 := 0#32
  let c1_i32_11 : BitVec 32 := 1#32
  let arg11 : BitVec 32 := Scf.iv c0_i32_10 c1_i32_11 k0_t1
  let c1_i32_35 : BitVec 32 := 1#32
  let v52 : BitVec 32 := Scalar.addi arg11 c1_i32_35
  let c20_i32_36 : BitVec 32 := 20#32
  let v53 : BitVec 1 := Scalar.cmpi .slt v52 c20_i32_36
  let v54 : BitVec 32 := Scalar.extui v53
  let c0_i32_37 : BitVec 32 := 0#32
  let v55 : BitVec 1 := Scalar.cmpi .ne v54 c0_i32_37
  v55

def k0_off2 (k0_t1 : Fin k0_t1_loop.trips) : Fin 3 → Nat :=
  let c1_i32_60 : BitVec 32 := 1#32
  let c0_i32_10 : BitVec 32 := 0#32
  let c1_i32_11 : BitVec 32 := 1#32
  let arg11 : BitVec 32 := Scf.iv c0_i32_10 c1_i32_11 k0_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  let v83 : BitVec 32 := Scalar.subi c1_i32_60 v51
  let c0_i32_62 : BitVec 32 := 0#32
  let c0_i32_63 : BitVec 32 := 0#32
  ![v83.toNat, 0, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v12 : BitVec 32 := Scalar.muli v1 c10000_i32
  let c0_i32_10 : BitVec 32 := 0#32
  let c1_i32_11 : BitVec 32 := 1#32
  let arg11 : BitVec 32 := Scf.iv c0_i32_10 c1_i32_11 k0_t1
  let c1_i32_58 : BitVec 32 := 1#32
  let v80 : BitVec 32 := Scalar.addi arg11 c1_i32_58
  let c500_i32_59 : BitVec 32 := 500#32
  let v81 : BitVec 32 := Scalar.muli v80 c500_i32_59
  let v82 : BitVec 32 := Scalar.addi v12 v81
  let c0_i32_64 : BitVec 32 := 0#32
  ![v82.toNat, 0]
def k0_off4 (k0_t1 : Fin k0_t1_loop.trips) : Fin 1 → Nat :=
  let c1_i32_61 : BitVec 32 := 1#32
  let c0_i32_10 : BitVec 32 := 0#32
  let c1_i32_11 : BitVec 32 := 1#32
  let arg11 : BitVec 32 := Scf.iv c0_i32_10 c1_i32_11 k0_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  let v84 : BitVec 32 := Scalar.subi c1_i32_61 v51
  ![v84.toNat]
def k0_off5 (k0_t1 : Fin k0_t1_loop.trips) : Fin 3 → Nat :=
  let c0_i32_10 : BitVec 32 := 0#32
  let c1_i32_11 : BitVec 32 := 1#32
  let arg11 : BitVec 32 := Scf.iv c0_i32_10 c1_i32_11 k0_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  let c0_i32_38 : BitVec 32 := 0#32
  let c0_i32_39 : BitVec 32 := 0#32
  ![v51.toNat, 0, 0]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v12 : BitVec 32 := Scalar.muli v1 c10000_i32
  let c0_i32_10 : BitVec 32 := 0#32
  let c1_i32_11 : BitVec 32 := 1#32
  let arg11 : BitVec 32 := Scf.iv c0_i32_10 c1_i32_11 k0_t1
  let c500_i32 : BitVec 32 := 500#32
  let v56 : BitVec 32 := Scalar.muli arg11 c500_i32
  let v57 : BitVec 32 := Scalar.addi v12 v56
  let c0_i32_40 : BitVec 32 := 0#32
  ![v57.toNat, 0]
def k0_off7 (k0_t1 : Fin k0_t1_loop.trips) : Fin 1 → Nat :=
  let c0_i32_10 : BitVec 32 := 0#32
  let c1_i32_11 : BitVec 32 := 1#32
  let arg11 : BitVec 32 := Scf.iv c0_i32_10 c1_i32_11 k0_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  ![v51.toNat]
def k0_cond2 (k0_t1 : Fin k0_t1_loop.trips) : BitVec 1 :=
  let c0_i32_10 : BitVec 32 := 0#32
  let c1_i32_11 : BitVec 32 := 1#32
  let arg11 : BitVec 32 := Scf.iv c0_i32_10 c1_i32_11 k0_t1
  let c2_i32_44 : BitVec 32 := 2#32
  let v66 : BitVec 1 := Scalar.cmpi .sge arg11 c2_i32_44
  let v67 : BitVec 32 := Scalar.extui v66
  let c0_i32_45 : BitVec 32 := 0#32
  let v68 : BitVec 1 := Scalar.cmpi .ne v67 c0_i32_45
  v68

def k0_off8 (k0_t1 : Fin k0_t1_loop.trips) : Fin 3 → Nat :=
  let c0_i32_10 : BitVec 32 := 0#32
  let c1_i32_11 : BitVec 32 := 1#32
  let arg11 : BitVec 32 := Scf.iv c0_i32_10 c1_i32_11 k0_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  let c0_i32_60 : BitVec 32 := 0#32
  let c0_i32_61 : BitVec 32 := 0#32
  ![v51.toNat, 0, 0]
def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v12 : BitVec 32 := Scalar.muli v1 c10000_i32
  let c0_i32_10 : BitVec 32 := 0#32
  let c1_i32_11 : BitVec 32 := 1#32
  let arg11 : BitVec 32 := Scf.iv c0_i32_10 c1_i32_11 k0_t1
  let c2_i32_58 : BitVec 32 := 2#32
  let v80 : BitVec 32 := Scalar.subi arg11 c2_i32_58
  let c500_i32_59 : BitVec 32 := 500#32
  let v81 : BitVec 32 := Scalar.muli v80 c500_i32_59
  let v82 : BitVec 32 := Scalar.addi v12 v81
  let c0_i32_62 : BitVec 32 := 0#32
  ![v82.toNat, 0]
def k0_off10 (k0_t1 : Fin k0_t1_loop.trips) : Fin 1 → Nat :=
  let c0_i32_10 : BitVec 32 := 0#32
  let c1_i32_11 : BitVec 32 := 1#32
  let arg11 : BitVec 32 := Scf.iv c0_i32_10 c1_i32_11 k0_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  ![v51.toNat]
@[reducible] def k0_t2_loop : Scf.Loop 32 :=
  let c0_i32_46 : BitVec 32 := 0#32
  let c500_i32_47 : BitVec 32 := 500#32
  let v69 : BitVec 32 := Scalar.addi c0_i32_46 c500_i32_47
  let c1_i32_48 : BitVec 32 := 1#32
  ⟨c0_i32_46, v69, c1_i32_48⟩
def k0_off11 (k0_t1 : Fin k0_t1_loop.trips) (k0_t2 : Fin k0_t2_loop.trips) : Fin 3 → Nat :=
  let c0_i32_10 : BitVec 32 := 0#32
  let c1_i32_11 : BitVec 32 := 1#32
  let arg11 : BitVec 32 := Scf.iv c0_i32_10 c1_i32_11 k0_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  let v82 : Index := Scalar.indexCast v51
  let c0_i32_59 : BitVec 32 := 0#32
  let c0_i32_46 : BitVec 32 := 0#32
  let c1_i32_48 : BitVec 32 := 1#32
  let arg13 : BitVec 32 := Scf.iv c0_i32_46 c1_i32_48 k0_t2
  let c1_i32_58 : BitVec 32 := 1#32
  let v80 : BitVec 32 := Scalar.muli arg13 c1_i32_58
  let v81 : BitVec 32 := Scalar.addi c0_i32_59 v80
  let v83 : Index := Scalar.indexCast v81
  let c0_60 : Index := 0#32
  ![v82.toNat, v83.toNat, 0]

def k0_chk1 (v5 : IVec S16 32) : Prop :=
  (∀ a x, ((![v5] : Fin 1 → IVec S16 32) a x).toNat < S16.size a)
theorem k0_idx1_inb : ∀ (v5 : IVec S16 32) (k0_hw1 : k0_chk1 v5), ∀ a x, ((![v5] : Fin 1 → IVec S16 32) a x).toNat < S16.size a := fun v5 k0_hw1 => k0_hw1

def k0_chk2 (v7 : IVec S16 32) : Prop :=
  (∀ a x, ((![v7] : Fin 1 → IVec S16 32) a x).toNat < S16.size a)
theorem k0_idx2_inb : ∀ (v7 : IVec S16 32) (k0_hw2 : k0_chk2 v7), ∀ a x, ((![v7] : Fin 1 → IVec S16 32) a x).toNat < S16.size a := fun v7 k0_hw2 => k0_hw2

def k0_chk3 (v9 : IVec S16 32) : Prop :=
  (∀ a x, ((![v9] : Fin 1 → IVec S16 32) a x).toNat < S16.size a)
theorem k0_idx3_inb : ∀ (v9 : IVec S16 32) (k0_hw3 : k0_chk3 v9), ∀ a x, ((![v9] : Fin 1 → IVec S16 32) a x).toNat < S16.size a := fun v9 k0_hw3 => k0_hw3

def k0_chk4 (v11 : IVec S16 32) : Prop :=
  (∀ a x, ((![v11] : Fin 1 → IVec S16 32) a x).toNat < S16.size a)
theorem k0_idx4_inb : ∀ (v11 : IVec S16 32) (k0_hw4 : k0_chk4 v11), ∀ a x, ((![v11] : Fin 1 → IVec S16 32) a x).toNat < S16.size a := fun v11 k0_hw4 => k0_hw4
def k0_off12 (k0_t1 : Fin k0_t1_loop.trips) (k0_t2 : Fin k0_t2_loop.trips) : Fin 3 → Nat :=
  let c0_i32_10 : BitVec 32 := 0#32
  let c1_i32_11 : BitVec 32 := 1#32
  let arg11 : BitVec 32 := Scf.iv c0_i32_10 c1_i32_11 k0_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  let v100 : Index := Scalar.indexCast v51
  let c0_i32_59 : BitVec 32 := 0#32
  let c0_i32_46 : BitVec 32 := 0#32
  let c1_i32_48 : BitVec 32 := 1#32
  let arg13 : BitVec 32 := Scf.iv c0_i32_46 c1_i32_48 k0_t2
  let c1_i32_58 : BitVec 32 := 1#32
  let v80 : BitVec 32 := Scalar.muli arg13 c1_i32_58
  let v81 : BitVec 32 := Scalar.addi c0_i32_59 v80
  let v101 : Index := Scalar.indexCast v81
  let c0_65 : Index := 0#32
  ![v100.toNat, v101.toNat, 0]
def k0_off13 (k0_t1 : Fin k0_t1_loop.trips) : Fin 3 → Nat :=
  let c0_i32_10 : BitVec 32 := 0#32
  let c1_i32_11 : BitVec 32 := 1#32
  let arg11 : BitVec 32 := Scf.iv c0_i32_10 c1_i32_11 k0_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  let c0_i32_51 : BitVec 32 := 0#32
  let c0_i32_52 : BitVec 32 := 0#32
  ![v51.toNat, 0, 0]
def k0_off14 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v12 : BitVec 32 := Scalar.muli v1 c10000_i32
  let c0_i32_10 : BitVec 32 := 0#32
  let c1_i32_11 : BitVec 32 := 1#32
  let arg11 : BitVec 32 := Scf.iv c0_i32_10 c1_i32_11 k0_t1
  let c500_i32_50 : BitVec 32 := 500#32
  let v70 : BitVec 32 := Scalar.muli arg11 c500_i32_50
  let v71 : BitVec 32 := Scalar.addi v12 v70
  let c0_i32_53 : BitVec 32 := 0#32
  ![v71.toNat, 0]
def k0_off15 (k0_t1 : Fin k0_t1_loop.trips) : Fin 1 → Nat :=
  let c0_i32_10 : BitVec 32 := 0#32
  let c1_i32_11 : BitVec 32 := 1#32
  let arg11 : BitVec 32 := Scf.iv c0_i32_10 c1_i32_11 k0_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  ![v51.toNat]
def k0_off16 (i : grid0.Coords) (c9000_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v12 : BitVec 32 := Scalar.muli v1 c10000_i32
  let v24 : BitVec 32 := Scalar.addi v12 c9000_i32
  let c0_i32_17 : BitVec 32 := 0#32
  ![v24.toNat, 0]
abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v12 : BitVec 32 := Scalar.muli v1 c10000_i32
  let c0_i32 : BitVec 32 := 0#32
  let v13 : BitVec 32 := Scalar.addi v12 c0_i32
  let c0_i32_5 : BitVec 32 := 0#32
  ![v13.toNat, 0]
@[reducible] def k1_t1_loop : Scf.Loop 32 :=
  let c0_i32_10 : BitVec 32 := 0#32
  let c20_i32 : BitVec 32 := 20#32
  let v22 : BitVec 32 := Scalar.addi c0_i32_10 c20_i32
  let c1_i32_11 : BitVec 32 := 1#32
  ⟨c0_i32_10, v22, c1_i32_11⟩
def k1_cond1 (k1_t1 : Fin k1_t1_loop.trips) : BitVec 1 :=
  let c0_i32_10 : BitVec 32 := 0#32
  let c1_i32_11 : BitVec 32 := 1#32
  let arg11 : BitVec 32 := Scf.iv c0_i32_10 c1_i32_11 k1_t1
  let c1_i32_35 : BitVec 32 := 1#32
  let v52 : BitVec 32 := Scalar.addi arg11 c1_i32_35
  let c20_i32_36 : BitVec 32 := 20#32
  let v53 : BitVec 1 := Scalar.cmpi .slt v52 c20_i32_36
  let v54 : BitVec 32 := Scalar.extui v53
  let c0_i32_37 : BitVec 32 := 0#32
  let v55 : BitVec 1 := Scalar.cmpi .ne v54 c0_i32_37
  v55

def k1_off2 (k1_t1 : Fin k1_t1_loop.trips) : Fin 3 → Nat :=
  let c1_i32_60 : BitVec 32 := 1#32
  let c0_i32_10 : BitVec 32 := 0#32
  let c1_i32_11 : BitVec 32 := 1#32
  let arg11 : BitVec 32 := Scf.iv c0_i32_10 c1_i32_11 k1_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  let v83 : BitVec 32 := Scalar.subi c1_i32_60 v51
  let c0_i32_62 : BitVec 32 := 0#32
  let c0_i32_63 : BitVec 32 := 0#32
  ![v83.toNat, 0, 0]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v12 : BitVec 32 := Scalar.muli v1 c10000_i32
  let c0_i32_10 : BitVec 32 := 0#32
  let c1_i32_11 : BitVec 32 := 1#32
  let arg11 : BitVec 32 := Scf.iv c0_i32_10 c1_i32_11 k1_t1
  let c1_i32_58 : BitVec 32 := 1#32
  let v80 : BitVec 32 := Scalar.addi arg11 c1_i32_58
  let c500_i32_59 : BitVec 32 := 500#32
  let v81 : BitVec 32 := Scalar.muli v80 c500_i32_59
  let v82 : BitVec 32 := Scalar.addi v12 v81
  let c0_i32_64 : BitVec 32 := 0#32
  ![v82.toNat, 0]
def k1_off4 (k1_t1 : Fin k1_t1_loop.trips) : Fin 1 → Nat :=
  let c1_i32_61 : BitVec 32 := 1#32
  let c0_i32_10 : BitVec 32 := 0#32
  let c1_i32_11 : BitVec 32 := 1#32
  let arg11 : BitVec 32 := Scf.iv c0_i32_10 c1_i32_11 k1_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  let v84 : BitVec 32 := Scalar.subi c1_i32_61 v51
  ![v84.toNat]
def k1_off5 (k1_t1 : Fin k1_t1_loop.trips) : Fin 3 → Nat :=
  let c0_i32_10 : BitVec 32 := 0#32
  let c1_i32_11 : BitVec 32 := 1#32
  let arg11 : BitVec 32 := Scf.iv c0_i32_10 c1_i32_11 k1_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  let c0_i32_38 : BitVec 32 := 0#32
  let c0_i32_39 : BitVec 32 := 0#32
  ![v51.toNat, 0, 0]
def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v12 : BitVec 32 := Scalar.muli v1 c10000_i32
  let c0_i32_10 : BitVec 32 := 0#32
  let c1_i32_11 : BitVec 32 := 1#32
  let arg11 : BitVec 32 := Scf.iv c0_i32_10 c1_i32_11 k1_t1
  let c500_i32 : BitVec 32 := 500#32
  let v56 : BitVec 32 := Scalar.muli arg11 c500_i32
  let v57 : BitVec 32 := Scalar.addi v12 v56
  let c0_i32_40 : BitVec 32 := 0#32
  ![v57.toNat, 0]
def k1_off7 (k1_t1 : Fin k1_t1_loop.trips) : Fin 1 → Nat :=
  let c0_i32_10 : BitVec 32 := 0#32
  let c1_i32_11 : BitVec 32 := 1#32
  let arg11 : BitVec 32 := Scf.iv c0_i32_10 c1_i32_11 k1_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  ![v51.toNat]
def k1_cond2 (k1_t1 : Fin k1_t1_loop.trips) : BitVec 1 :=
  let c0_i32_10 : BitVec 32 := 0#32
  let c1_i32_11 : BitVec 32 := 1#32
  let arg11 : BitVec 32 := Scf.iv c0_i32_10 c1_i32_11 k1_t1
  let c2_i32_44 : BitVec 32 := 2#32
  let v66 : BitVec 1 := Scalar.cmpi .sge arg11 c2_i32_44
  let v67 : BitVec 32 := Scalar.extui v66
  let c0_i32_45 : BitVec 32 := 0#32
  let v68 : BitVec 1 := Scalar.cmpi .ne v67 c0_i32_45
  v68

def k1_off8 (k1_t1 : Fin k1_t1_loop.trips) : Fin 3 → Nat :=
  let c0_i32_10 : BitVec 32 := 0#32
  let c1_i32_11 : BitVec 32 := 1#32
  let arg11 : BitVec 32 := Scf.iv c0_i32_10 c1_i32_11 k1_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  let c0_i32_60 : BitVec 32 := 0#32
  let c0_i32_61 : BitVec 32 := 0#32
  ![v51.toNat, 0, 0]
def k1_off9 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v12 : BitVec 32 := Scalar.muli v1 c10000_i32
  let c0_i32_10 : BitVec 32 := 0#32
  let c1_i32_11 : BitVec 32 := 1#32
  let arg11 : BitVec 32 := Scf.iv c0_i32_10 c1_i32_11 k1_t1
  let c2_i32_58 : BitVec 32 := 2#32
  let v80 : BitVec 32 := Scalar.subi arg11 c2_i32_58
  let c500_i32_59 : BitVec 32 := 500#32
  let v81 : BitVec 32 := Scalar.muli v80 c500_i32_59
  let v82 : BitVec 32 := Scalar.addi v12 v81
  let c0_i32_62 : BitVec 32 := 0#32
  ![v82.toNat, 0]
def k1_off10 (k1_t1 : Fin k1_t1_loop.trips) : Fin 1 → Nat :=
  let c0_i32_10 : BitVec 32 := 0#32
  let c1_i32_11 : BitVec 32 := 1#32
  let arg11 : BitVec 32 := Scf.iv c0_i32_10 c1_i32_11 k1_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  ![v51.toNat]
@[reducible] def k1_t2_loop : Scf.Loop 32 :=
  let c0_i32_46 : BitVec 32 := 0#32
  let c500_i32_47 : BitVec 32 := 500#32
  let v69 : BitVec 32 := Scalar.addi c0_i32_46 c500_i32_47
  let c1_i32_48 : BitVec 32 := 1#32
  ⟨c0_i32_46, v69, c1_i32_48⟩
def k1_off11 (k1_t1 : Fin k1_t1_loop.trips) (k1_t2 : Fin k1_t2_loop.trips) : Fin 3 → Nat :=
  let c0_i32_10 : BitVec 32 := 0#32
  let c1_i32_11 : BitVec 32 := 1#32
  let arg11 : BitVec 32 := Scf.iv c0_i32_10 c1_i32_11 k1_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  let v82 : Index := Scalar.indexCast v51
  let c0_i32_59 : BitVec 32 := 0#32
  let c0_i32_46 : BitVec 32 := 0#32
  let c1_i32_48 : BitVec 32 := 1#32
  let arg13 : BitVec 32 := Scf.iv c0_i32_46 c1_i32_48 k1_t2
  let c1_i32_58 : BitVec 32 := 1#32
  let v80 : BitVec 32 := Scalar.muli arg13 c1_i32_58
  let v81 : BitVec 32 := Scalar.addi c0_i32_59 v80
  let v83 : Index := Scalar.indexCast v81
  let c0_60 : Index := 0#32
  ![v82.toNat, v83.toNat, 0]

def k1_chk1 (v5 : IVec S16 32) : Prop :=
  (∀ a x, ((![v5] : Fin 1 → IVec S16 32) a x).toNat < S16.size a)
theorem k1_idx1_inb : ∀ (v5 : IVec S16 32) (k1_hw1 : k1_chk1 v5), ∀ a x, ((![v5] : Fin 1 → IVec S16 32) a x).toNat < S16.size a := fun v5 k1_hw1 => k1_hw1

def k1_chk2 (v7 : IVec S16 32) : Prop :=
  (∀ a x, ((![v7] : Fin 1 → IVec S16 32) a x).toNat < S16.size a)
theorem k1_idx2_inb : ∀ (v7 : IVec S16 32) (k1_hw2 : k1_chk2 v7), ∀ a x, ((![v7] : Fin 1 → IVec S16 32) a x).toNat < S16.size a := fun v7 k1_hw2 => k1_hw2

def k1_chk3 (v9 : IVec S16 32) : Prop :=
  (∀ a x, ((![v9] : Fin 1 → IVec S16 32) a x).toNat < S16.size a)
theorem k1_idx3_inb : ∀ (v9 : IVec S16 32) (k1_hw3 : k1_chk3 v9), ∀ a x, ((![v9] : Fin 1 → IVec S16 32) a x).toNat < S16.size a := fun v9 k1_hw3 => k1_hw3

def k1_chk4 (v11 : IVec S16 32) : Prop :=
  (∀ a x, ((![v11] : Fin 1 → IVec S16 32) a x).toNat < S16.size a)
theorem k1_idx4_inb : ∀ (v11 : IVec S16 32) (k1_hw4 : k1_chk4 v11), ∀ a x, ((![v11] : Fin 1 → IVec S16 32) a x).toNat < S16.size a := fun v11 k1_hw4 => k1_hw4
def k1_off12 (k1_t1 : Fin k1_t1_loop.trips) (k1_t2 : Fin k1_t2_loop.trips) : Fin 3 → Nat :=
  let c0_i32_10 : BitVec 32 := 0#32
  let c1_i32_11 : BitVec 32 := 1#32
  let arg11 : BitVec 32 := Scf.iv c0_i32_10 c1_i32_11 k1_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  let v100 : Index := Scalar.indexCast v51
  let c0_i32_59 : BitVec 32 := 0#32
  let c0_i32_46 : BitVec 32 := 0#32
  let c1_i32_48 : BitVec 32 := 1#32
  let arg13 : BitVec 32 := Scf.iv c0_i32_46 c1_i32_48 k1_t2
  let c1_i32_58 : BitVec 32 := 1#32
  let v80 : BitVec 32 := Scalar.muli arg13 c1_i32_58
  let v81 : BitVec 32 := Scalar.addi c0_i32_59 v80
  let v101 : Index := Scalar.indexCast v81
  let c0_65 : Index := 0#32
  ![v100.toNat, v101.toNat, 0]
def k1_off13 (k1_t1 : Fin k1_t1_loop.trips) : Fin 3 → Nat :=
  let c0_i32_10 : BitVec 32 := 0#32
  let c1_i32_11 : BitVec 32 := 1#32
  let arg11 : BitVec 32 := Scf.iv c0_i32_10 c1_i32_11 k1_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  let c0_i32_51 : BitVec 32 := 0#32
  let c0_i32_52 : BitVec 32 := 0#32
  ![v51.toNat, 0, 0]
def k1_off14 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v12 : BitVec 32 := Scalar.muli v1 c10000_i32
  let c0_i32_10 : BitVec 32 := 0#32
  let c1_i32_11 : BitVec 32 := 1#32
  let arg11 : BitVec 32 := Scf.iv c0_i32_10 c1_i32_11 k1_t1
  let c500_i32_50 : BitVec 32 := 500#32
  let v70 : BitVec 32 := Scalar.muli arg11 c500_i32_50
  let v71 : BitVec 32 := Scalar.addi v12 v70
  let c0_i32_53 : BitVec 32 := 0#32
  ![v71.toNat, 0]
def k1_off15 (k1_t1 : Fin k1_t1_loop.trips) : Fin 1 → Nat :=
  let c0_i32_10 : BitVec 32 := 0#32
  let c1_i32_11 : BitVec 32 := 1#32
  let arg11 : BitVec 32 := Scf.iv c0_i32_10 c1_i32_11 k1_t1
  let c2_i32_29 : BitVec 32 := 2#32
  let c0_i32_30 : BitVec 32 := 0#32
  let v42 : BitVec 1 := Scalar.cmpi .eq c2_i32_29 c0_i32_30
  let c1_i32_31 : BitVec 32 := 1#32
  let v43 : BitVec 32 := Scalar.select v42 c1_i32_31 c2_i32_29
  let v44 : BitVec 32 := Scalar.remsi arg11 v43
  let c0_i32_33 : BitVec 32 := 0#32
  let v46 : BitVec 1 := Scalar.cmpi .slt v44 c0_i32_33
  let c0_i32_34 : BitVec 32 := 0#32
  let v47 : BitVec 1 := Scalar.cmpi .slt v43 c0_i32_34
  let v48 : BitVec 1 := Scalar.xori v46 v47
  let c0_i32_32 : BitVec 32 := 0#32
  let v45 : BitVec 1 := Scalar.cmpi .ne v44 c0_i32_32
  let v49 : BitVec 1 := Scalar.andi v48 v45
  let v50 : BitVec 32 := Scalar.addi v44 v43
  let v51 : BitVec 32 := Scalar.select v49 v50 v44
  ![v51.toNat]
def k1_off16 (i : grid1.Coords) (c9000_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v12 : BitVec 32 := Scalar.muli v1 c10000_i32
  let v24 : BitVec 32 := Scalar.addi v12 c9000_i32
  let c0_i32_17 : BitVec 32 := 0#32
  ![v24.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S320000x16 : Shape := ⟨2, ![320000, 16]⟩
abbrev S_ : Shape := ⟨0, ![]⟩
abbrev S320000 : Shape := ⟨1, ![320000]⟩
abbrev S320000x1 : Shape := ⟨2, ![320000, 1]⟩

abbrev nBuf : Space → Nat
  | .hbm => 45
  | .vmem => 0
  | .smem => 0
  | _ => 0

abbrev bufTy : (tb : Table) → Fin (tcTables nBuf tb) → BufTy
  | .hbm, ⟨0, _⟩ => ⟨S320000x16, .f32⟩
  | .hbm, ⟨1, _⟩ => ⟨S320000x16, .f32⟩
  | .hbm, ⟨2, _⟩ => ⟨S_, .i32⟩
  | .hbm, ⟨3, _⟩ => ⟨S_, .f32⟩
  | .hbm, ⟨4, _⟩ => ⟨S320000x16, .f32⟩
  | .hbm, ⟨5, _⟩ => ⟨S320000x16, .f32⟩
  | .hbm, ⟨6, _⟩ => ⟨S_, .f32⟩
  | .hbm, ⟨7, _⟩ => ⟨S_, .f32⟩
  | .hbm, ⟨8, _⟩ => ⟨S320000x16, .f32⟩
  | .hbm, ⟨9, _⟩ => ⟨S320000x16, .f32⟩
  | .hbm, ⟨10, _⟩ => ⟨S_, .f32⟩
  | .hbm, ⟨11, _⟩ => ⟨S320000, .f32⟩
  | .hbm, ⟨12, _⟩ => ⟨S_, .f32⟩
  | .hbm, ⟨13, _⟩ => ⟨S320000, .f32⟩
  | .hbm, ⟨14, _⟩ => ⟨S320000, .f32⟩
  | .hbm, ⟨15, _⟩ => ⟨S320000x1, .f32⟩
  | .hbm, ⟨16, _⟩ => ⟨S320000x16, .f32⟩
  | .hbm, ⟨17, _⟩ => ⟨S320000x16, .f32⟩
  | .hbm, ⟨18, _⟩ => ⟨S320000x16, .f32⟩
  | .hbm, ⟨19, _⟩ => ⟨S_, .f32⟩
  | .hbm, ⟨20, _⟩ => ⟨S320000, .f32⟩
  | .hbm, ⟨21, _⟩ => ⟨S320000x1, .f32⟩
  | .hbm, ⟨22, _⟩ => ⟨S320000x16, .f32⟩
  | .hbm, ⟨23, _⟩ => ⟨S320000x16, .f32⟩
  | .hbm, ⟨24, _⟩ => ⟨S_, .f32⟩
  | .hbm, ⟨25, _⟩ => ⟨S320000x16, .f32⟩
  | .hbm, ⟨26, _⟩ => ⟨S320000x16, .f32⟩
  | .hbm, ⟨27, _⟩ => ⟨S_, .f32⟩
  | .hbm, ⟨28, _⟩ => ⟨S_, .f32⟩
  | .hbm, ⟨29, _⟩ => ⟨S320000x16, .f32⟩
  | .hbm, ⟨30, _⟩ => ⟨S320000x16, .f32⟩
  | .hbm, ⟨31, _⟩ => ⟨S_, .f32⟩
  | .hbm, ⟨32, _⟩ => ⟨S320000, .f32⟩
  | .hbm, ⟨33, _⟩ => ⟨S_, .f32⟩
  | .hbm, ⟨34, _⟩ => ⟨S320000, .f32⟩
  | .hbm, ⟨35, _⟩ => ⟨S320000, .f32⟩
  | .hbm, ⟨36, _⟩ => ⟨S320000x1, .f32⟩
  | .hbm, ⟨37, _⟩ => ⟨S320000x16, .f32⟩
  | .hbm, ⟨38, _⟩ => ⟨S320000x16, .f32⟩
  | .hbm, ⟨39, _⟩ => ⟨S320000x16, .f32⟩
  | .hbm, ⟨40, _⟩ => ⟨S_, .f32⟩
  | .hbm, ⟨41, _⟩ => ⟨S320000, .f32⟩
  | .hbm, ⟨42, _⟩ => ⟨S320000x1, .f32⟩
  | .hbm, ⟨43, _⟩ => ⟨S320000x16, .f32⟩
  | .hbm, ⟨44, _⟩ => ⟨S320000x16, .f32⟩
  | _, _ => ⟨S320000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Proof.Geometry.lean ====
/-
  Where the softmax kernel's transfers and row accesses land.

  Each of the 320000-row arrays is read and written in 640 CHUNKS of 500 rows. Tile `(c, s)` owns the twenty chunks
  `40 s + 20 c + k`, `k < 20`, and at trip `k` of its loop stages chunk `k` through slot `k mod 2` of two buffers of two
  500-row slots each. This module names chunks, slots and the slots' semaphores, shows that the windows of the program
  are those, and says what a slot reads after a transfer and after a store of one row.
-/
module

public import proofs.«01_k».proof.Proof.Gen.KernelIdeal
public import proofs.«01_k».proof.Proof.Gen.KernelIdeal.Skeleton
public import Idealize.ShloMosaic.Lib.ValueIdx
public import Idealize.ShloMosaic.Lib.ValueLayout
public import Idealize.ShloMosaic.Lib.ViewIndex
public import Idealize.ShloMosaic.Lib.Transfers
public import Idealize.ShloMosaic.Lib.Tactic

@[expose] public section

noncomputable section

namespace Cert.Proof.Softmax

open Cert.KernelIdeal Cert.KernelIdeal.Gen
open Idealize.ShloMosaic Idealize.ShloMosaic.ValueIdx

variable {F : FTy → Type}

/-! ## Chunks, slots and cells -/

/-- The rectangle of chunk `n`: rows `500 n … 500 n + 499`. -/
abbrev chunkRect (n : Fin 640) : Rect S320000x16 :=
  Rect.unit (s := S320000x16) ![500 * n.val, 0] S500x16.size (by
    intro a; have := n.isLt; fin_cases a <;> simp <;> omega)

/-- Chunk `n` of an array of 320000 rows. -/
abbrev chunk (M : Memref sig .scVector .hbm S320000x16 .f32) (n : Fin 640) : Memref sig .scVector .hbm S500x16 .f32 :=
  M.slice (chunkRect n) (fun _ => rfl)

/-- The rectangle of slot `b` of a staging buffer. -/
abbrev slotRect (b : Fin 2) : Rect S2x500x16 :=
  Rect.unit (s := S2x500x16) ![b.val, 0, 0] S1x500x16.size (by
    intro a; have := b.isLt; fin_cases a <;> simp <;> omega)

/-- Slot `b` of a staging buffer, as 500 rows. -/
abbrev slot (M : Memref sig .scVector .vmem S2x500x16 .f32) (b : Fin 2) : Memref sig .scVector .vmem S500x16 .f32 :=
  (M.slice (slotRect b) (fun _ => rfl)).squeeze S500x16 squeezes_S1x500x16_S500x16

/-- The semaphore of slot `b`. -/
abbrev cell (A : DmaSems sig S2) (b : Fin 2) : DmaSem sig :=
  ((A.slice (Rect.unit (s := S2) ![b.val] S1.size (by intro a; have := b.isLt; fin_cases a; simp; omega))).squeeze S_ squeezes_S1_S_).sem

/-- The number of chunk `k < 20` of the tile at coordinates `i`. -/
def chunkNo (i : grid0.Coords) (k : ℕ) : Fin 640 := ⟨(40 * (i 1).val + 20 * (i 0).val + k) % 640, Nat.mod_lt _ (by decide)⟩

theorem chunkNo_val (i : grid0.Coords) {k : ℕ} (hk : k < 20) : (chunkNo i k).val = 40 * (i 1).val + 20 * (i 0).val + k := by
  have h0 : (i 0).val < 2 := (i 0).isLt
  have h1 : (i 1).val < 16 := (i 1).isLt
  exact Nat.mod_eq_of_lt (by omega)

/-- The slot of trip `k`. -/
def par (k : ℕ) : Fin 2 := ⟨k % 2, Nat.mod_lt _ (by decide)⟩

theorem par_add_two (k : ℕ) : par (k + 2) = par k := Fin.ext (by simp [par])

/-! ## The program's windows are those -/

theorem trips1 : k0_t1_loop.trips = 20 := by decide
theorem trips2 : k0_t2_loop.trips = 500 := by decide

theorem cond1_iff : ∀ t : Fin k0_t1_loop.trips, k0_cond1 t = 1#1 ↔ t.val + 1 < 20 := by decide +kernel
theorem cond2_iff : ∀ t : Fin k0_t1_loop.trips, k0_cond2 t = 1#1 ↔ 2 ≤ t.val := by decide +kernel
theorem off2_eq : ∀ t : Fin k0_t1_loop.trips, k0_off2 t = ![(par (t.val + 1)).val, 0, 0] := by decide +kernel
theorem off4_eq : ∀ t : Fin k0_t1_loop.trips, k0_off4 t = ![(par (t.val + 1)).val] := by decide +kernel
theorem off5_eq : ∀ t : Fin k0_t1_loop.trips, k0_off5 t = ![(par t.val).val, 0, 0] := by decide +kernel
theorem off7_eq : ∀ t : Fin k0_t1_loop.trips, k0_off7 t = ![(par t.val).val] := by decide +kernel
theorem off8_eq : ∀ t : Fin k0_t1_loop.trips, k0_off8 t = ![(par t.val).val, 0, 0] := by decide +kernel
theorem off10_eq : ∀ t : Fin k0_t1_loop.trips, k0_off10 t = ![(par t.val).val] := by decide +kernel
theorem off13_eq : ∀ t : Fin k0_t1_loop.trips, k0_off13 t = ![(par t.val).val, 0, 0] := by decide +kernel
theorem off15_eq : ∀ t : Fin k0_t1_loop.trips, k0_off15 t = ![(par t.val).val] := by decide +kernel
theorem off11_slot : ∀ t : Fin k0_t1_loop.trips, k0_off11 t ⟨0, by decide⟩ 0 = (par t.val).val := by decide +kernel
theorem off11_row : ∀ r : Fin k0_t2_loop.trips, k0_off11 ⟨0, by decide⟩ r 1 = r.val := by decide +kernel
theorem off12_slot : ∀ t : Fin k0_t1_loop.trips, k0_off12 t ⟨0, by decide⟩ 0 = (par t.val).val := by decide +kernel
theorem off12_row : ∀ r : Fin k0_t2_loop.trips, k0_off12 ⟨0, by decide⟩ r 1 = r.val := by decide +kernel

/-- The row the inner loop reads at its trip `r`, -/
theorem off11_eq (t : Fin k0_t1_loop.trips) (r : Fin k0_t2_loop.trips) : k0_off11 t r = ![(par t.val).val, r.val, 0] := by
  funext a
  fin_cases a
  · exact (by unfold k0_off11; rfl : k0_off11 t r 0 = k0_off11 t ⟨0, by decide⟩ 0).trans (off11_slot t)
  · exact (by unfold k0_off11; rfl : k0_off11 t r 1 = k0_off11 ⟨0, by decide⟩ r 1).trans (off11_row r)
  · rfl

/-- and the row it writes. -/
theorem off12_eq (t : Fin k0_t1_loop.trips) (r : Fin k0_t2_loop.trips) : k0_off12 t r = ![(par t.val).val, r.val, 0] := by
  funext a
  fin_cases a
  · exact (by unfold k0_off12; rfl : k0_off12 t r 0 = k0_off12 t ⟨0, by decide⟩ 0).trans (off12_slot t)
  · exact (by unfold k0_off12; rfl : k0_off12 t r 1 = k0_off12 ⟨0, by decide⟩ r 1).trans (off12_row r)
  · rfl

theorem off1_eq (i : grid0.Coords) : k0_off1 i = ![500 * (chunkNo i 0).val, 0] := by
  rw [k0_off1_eq, chunkNo_val i (by decide)]; funext a; fin_cases a
  · show 20000 * (i 1).val + 10000 * (i 0).val = 500 * (40 * (i 1).val + 20 * (i 0).val + 0); omega
  · rfl

theorem off3_eq (i : grid0.Coords) (t : Fin k0_t1_loop.trips) (h : t.val + 1 < 20) :
    k0_off3 i t = ![500 * (chunkNo i (t.val + 1)).val, 0] := by
  rw [k0_off3_eq, chunkNo_val i h]; funext a; fin_cases a
  · show 20000 * (i 1).val + 10000 * (i 0).val + 500 * t.val + 500 = 500 * (40 * (i 1).val + 20 * (i 0).val + (t.val + 1)); omega
  · rfl

theorem off14_eq (i : grid0.Coords) (t : Fin k0_t1_loop.trips) (h : t.val < 20) :
    k0_off14 i t = ![500 * (chunkNo i t.val).val, 0] := by
  rw [k0_off14_eq, chunkNo_val i h]; funext a; fin_cases a
  · show 20000 * (i 1).val + 10000 * (i 0).val + 500 * t.val = 500 * (40 * (i 1).val + 20 * (i 0).val + t.val); omega
  · rfl

/-- A window of 500 rows at chunk `n`'s offset is chunk `n`. -/
theorem chunk_of (M : Memref sig .scVector .hbm S320000x16 .f32) {o : Fin 2 → ℕ} {n : Fin 640} (h : o = ![500 * n.val, 0])
    (inb : ∀ a, o a + S500x16.size a ≤ S320000x16.size a) :
    M.slice (Rect.unit (s := S320000x16) o S500x16.size inb) (fun _ => rfl) = chunk M n := by
  subst h; rfl

/-- A window of a staging buffer at slot `b`'s offset is slot `b`. -/
theorem slot_of (M : Memref sig .scVector .vmem S2x500x16 .f32) {o : Fin 3 → ℕ} {b : Fin 2} (h : o = ![b.val, 0, 0])
    (inb : ∀ a, o a + S1x500x16.size a ≤ S2x500x16.size a) :
    (M.slice (Rect.unit (s := S2x500x16) o S1x500x16.size inb) (fun _ => rfl)).squeeze S500x16 squeezes_S1x500x16_S500x16 = slot M b := by
  subst h; rfl

/-- A semaphore at slot `b`'s place is slot `b`'s. -/
theorem cell_of (A : DmaSems sig S2) {o : Fin 1 → ℕ} {b : Fin 2} (h : o = ![b.val]) (inb : ∀ a, o a + S1.size a ≤ S2.size a) :
    ((A.slice (Rect.unit (s := S2) o S1.size inb)).squeeze S_ squeezes_S1_S_).sem = cell A b := by
  subst h; rfl

/-! ## What they read -/

/-- Row `x 0` of chunk `n`, lane `x 1`, as an index of the array. -/
def chunkIdx (n : Fin 640) (x : S500x16.Idx) : S320000x16.Idx := (chunkRect n).emb x

theorem read_chunk (M : Memref sig .scVector .hbm S320000x16 .f32) (n : Fin 640) (f : M.view.ty.Contents (Elt F)) (x : S500x16.Idx) :
    (chunk M n).view.read (Elt F) f x = M.view.read (Elt F) f (chunkIdx n x) := rfl

/-- Slot `b` reads, at row `r` and lane `l`, the buffer's element `(b, r, l)`. -/
theorem read_slot (M : Memref sig .scVector .vmem S2x500x16 .f32) (b : Fin 2) (f : M.view.ty.Contents (Elt F)) (r : Fin 500) (l : Fin 16) :
    (slot M b).view.read (Elt F) f (ix2 r l) = M.view.read (Elt F) f (ix3 b r l) := by
  show M.view.read (Elt F) f ((slotRect b).emb (Shape.reshapeEquiv squeezes_S1x500x16_S500x16.numel_eq (ix2 r l))) = _
  congr 1
  rw [reshapeEquiv_ix2_1ab]
  refine Shape.idx3_ext ?_ ?_ ?_
  · show b.val + 1 * 0 = b.val; omega
  · show 0 + 1 * r.val = r.val; omega
  · show 0 + 1 * l.val = l.val; omega

/-- The rectangle of row `r` of slot `b`. -/
abbrev rowRect (b : Fin 2) (r : Fin 500) : Rect S2x500x16 :=
  Rect.unit (s := S2x500x16) ![b.val, r.val, 0] S1x1x16.size (by
    intro a; have := b.isLt; have := r.isLt; fin_cases a <;> simp <;> omega)

theorem rowRect_emb (b : Fin 2) (r : Fin 500) (l : Fin 16) :
    (rowRect b r).emb (ix3 (0 : Fin 1) (0 : Fin 1) l) = ix3 b r l := by
  refine Shape.idx3_ext ?_ ?_ ?_
  · show b.val + 1 * 0 = b.val; omega
  · show r.val + 1 * 0 = r.val; omega
  · show 0 + 1 * l.val = l.val; omega

theorem rowRect_set_sub (M : Memref sig .scVector .vmem S2x500x16 .f32) (b : Fin 2) (r : Fin 500) :
    (M.access (rowRect b r)).set ⊆ (slot M b).view.set := by
  rw [show (slot M b).view.set = (M.view.slice (slotRect b)).set from View.set_reshape _ _]
  show (M.view.slice (rowRect b r)).set ⊆ _
  rw [View.set_slice, View.set_slice]
  apply Finset.map_subset_map.mpr
  intro j hj
  rw [Rect.mem_set_unit] at hj ⊢
  have := r.isLt
  intro a
  have h := hj a
  fin_cases a <;> simp at h ⊢ <;> omega

end Cert.Proof.Softmax
-- ==== Proof.Base.lean ====
/-
  The logic the proof of the softmax kernel works in: the launch's label set and configuration, the user algebra —
  the handshakes' rounds beside the counters of the transfers in flight — and the two embeddings of its halves.
-/
module

public import proofs.«01_k».proof.Proof.Geometry
public import Idealize.ShloMosaic.Lib.SparseCore.Quiescent
public import Idealize.ShloMosaic.Lib.SparseCore.Ops
public import Idealize.ShloMosaic.Lib.StableHlo.Run

@[expose] public section

noncomputable section

namespace Cert.Proof.Softmax

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, -/
abbrev UH : Type := URounds (GSem nD τ sig) ℕ
/-- and beside them the counters of the tiles' own transfers. -/
abbrev UU : Type := UH × Counters

local notation "𝕄" => MT nD τ sig (HIx 2) (Elt F) ℕ UU ℕ

def EH : Emb UH (MT nD τ sig (HIx 2) (Elt F) ℕ UU ℕ) :=
  (Emb.inl : Emb UH UU).trans (uEmb (nD := nD) (sig := sig) (Ix := HIx 2) (Val := Elt F) (Name := ℕ) (U := UU) (Lvl := ℕ)).toEmb

instance EH_landsIn : (EH : Emb UH 𝕄).LandsIn (upEmb : UEmb _ 𝕄) := by unfold EH; infer_instance

/-- The transfers' counters inside the whole algebra. -/
abbrev EC : UEmb Counters (MT nD τ sig (HIx 2) (Elt F) ℕ UU ℕ) := countersEmb

/-- The SparseCore of a tile's coordinates, and its subcore. -/
abbrev cV (L : grid0.Coords) : Fin τ.nSC := (L 0).castLE hcore0
abbrev jV (L : grid0.Coords) : Fin τ.nSub := (L 1).castLE hsub0

end Cert.Proof.Softmax
-- ==== Proof.Row.lean ====
/-
  What the kernel computes of one row: sixteen exponentials, their sum by four exchanges of lanes, a division.

  `bfly s p` adds to every lane of `s` the lane that `p` names for it. With `p` the exclusive or of the lane number with
  1, 2, 4 and 8 in turn, every lane ends at the sum of the sixteen. `rowOut w x` is the row the kernel leaves when it
  loads the row `x` and the reciprocal temperature is `w`; `softArr w X` is the array of those rows.
-/
module

public import proofs.«01_k».proof.Proof.Geometry
public import Idealize.ShloMosaic.Lib.SparseCore.Ops
public import Idealize.ShloMosaic.Lib.LaneScatter.Tiles

@[expose] public section

noncomputable section

namespace Cert.Proof.Softmax

open Cert.KernelIdeal Cert.KernelIdeal.Gen
open Idealize.ShloMosaic Idealize.ShloMosaic.ValueIdx

variable {F : FTy → Type}

/-! ## The lane exchanges name lanes -/

theorem chk1 : k0_chk1 k0_pay6 := by unfold k0_chk1; decide +kernel
theorem chk2 : k0_chk2 k0_pay7 := by unfold k0_chk2; decide +kernel
theorem chk3 : k0_chk3 k0_pay8 := by unfold k0_chk3; decide +kernel
theorem chk4 : k0_chk4 k0_pay9 := by unfold k0_chk4; decide +kernel

variable [FloatOps F]

/-- To every lane, the lane `p` names for it added. -/
def bfly (s : Vec F S16 .f32) (p : IVec S16 32) (h : ∀ a x, ((![p] : Fin 1 → IVec S16 32) a x).toNat < S16.size a) : Vec F S16 .f32 :=
  addf (φ := .f32) s (loadIdx (F := F) (e := .f32) s ![p] h)

/-- The sum of a row's sixteen lanes, in every lane. -/
def total (s : Vec F S16 .f32) : Vec F S16 .f32 :=
  bfly (bfly (bfly (bfly s k0_pay6 (k0_idx1_inb _ chk1)) k0_pay7 (k0_idx2_inb _ chk2)) k0_pay8 (k0_idx3_inb _ chk3)) k0_pay9 (k0_idx4_inb _ chk4)

/-- The exponentials of a row times the reciprocal temperature. -/
def expRow (w x : Vec F S16 .f32) : Vec F S16 .f32 := exp (φ := .f32) (mulf (φ := .f32) x w)

/-- What the kernel leaves of the row `x`. -/
def rowOut (w x : Vec F S16 .f32) : Vec F S16 .f32 := divf (φ := .f32) (expRow w x) (total (expRow w x))

/-- Row `r` of an array. -/
def rowOf {n : ℕ} (X : (⟨2, ![n, 16]⟩ : Shape).Idx → Elt F .f32) (r : Fin n) : Vec F S16 .f32 := fun l => X (ix2 r (l 0))

/-- The array of the kernel's rows. -/
def softArr {n : ℕ} (w : Vec F S16 .f32) (X : (⟨2, ![n, 16]⟩ : Shape).Idx → Elt F .f32) : (⟨2, ![n, 16]⟩ : Shape).Idx → Elt F .f32 :=
  fun j => rowOut w (rowOf X (j 0)) (ix1 (j 1))

/-- A row's sixteen lanes laid in a `1 × 1 × 16` box, and back. -/
theorem cast_box (x : Vec F S1x1x16 .f32) (l : Fin 16) :
    shapeCast S16 x shapeCasts_S1x1x16_S16 (ix1 l) = x (ix3 (0 : Fin 1) (0 : Fin 1) l) := by
  unfold shapeCast
  congr 1
  exact Shape.reshapeEquiv_eq_of_rowMajor _ (by
    rw [Shape.rowMajor_val_three, Shape.rowMajor_val_one]
    show (0 * 1 + 0) * 16 + l.val = l.val; omega)

theorem box_cast (x : Vec F S16 .f32) (l : Fin 16) :
    shapeCast S1x1x16 x shapeCasts_S16_S1x1x16 (ix3 (0 : Fin 1) (0 : Fin 1) l) = x (ix1 l) := by
  unfold shapeCast
  congr 1
  exact Shape.reshapeEquiv_eq_of_rowMajor _ (by
    rw [Shape.rowMajor_val_three, Shape.rowMajor_val_one]
    show l.val = (0 * 1 + 0) * 16 + l.val; omega)

/-- The last value of the row's program, its four loads taken at what was stored before each, is `rowOut`. -/
theorem pay_rowOut (w : Vec F S16 .f32) (x : Vec F S1x1x16 .f32) (y : Vec F S16 .f32) (hx : shapeCast S16 x shapeCasts_S1x1x16_S16 = y)
    (v88 v91 v94 v97 : Vec F S16 .f32)
    (h88 : v88 = loadIdx (F := F) (e := .f32) (k0_pay1 w x) ![k0_pay6] (k0_idx1_inb _ chk1))
    (h91 : v91 = loadIdx (F := F) (e := .f32) (k0_pay2 w x v88) ![k0_pay7] (k0_idx2_inb _ chk2))
    (h94 : v94 = loadIdx (F := F) (e := .f32) (k0_pay3 w x v88 v91) ![k0_pay8] (k0_idx3_inb _ chk3))
    (h97 : v97 = loadIdx (F := F) (e := .f32) (k0_pay4 w x v88 v91 v94) ![k0_pay9] (k0_idx4_inb _ chk4)) :
    k0_pay5 w x v88 v91 v94 v97 = rowOut w y := by
  subst hx h88 h91 h94 h97; rfl

/-! ## Reading a scratch of sixteen lanes after a store of all of it -/

theorem read_lanes (M : Memref sig .scVector .vmem S16 .f32) (f : M.view.ty.Contents (Elt F)) (w : Vec F S16 .f32) :
    (M.access (.whole S16)).read (Elt F) ((M.access (Rect.unit (s := S16) ![0] S16.size inb_S16_S16_0)).write (Elt F) f w Finset.univ) = w := by
  have h := LaneScatter.read_whole_store (Val := Elt F) M.view f (off := ![0]) (by intro a; fin_cases a; rfl) inb_S16_S16_0 w
  funext y
  have hy : (Rect.whole S16).emb y = y := Rect.emb_whole_apply _ _
  show M.view.read (Elt F) _ ((Rect.whole S16).emb y) = w y
  rw [hy]
  exact congrFun h y

/-! ## A slot's rows -/

/-- The load of row `r` of slot `b`, as sixteen lanes. -/
theorem load_row (M : Memref sig .scVector .vmem S2x500x16 .f32) (b : Fin 2) (r : Fin 500) (f : M.view.ty.Contents (Elt F)) :
    shapeCast S16 (M.view.readAt (Elt F) (rowRect b r).toLoadRect f) shapeCasts_S1x1x16_S16
      = rowOf ((slot M b).view.read (Elt F) f) r := by
  funext y
  obtain ⟨l, rfl⟩ : ∃ l : Fin 16, y = ix1 l := ⟨y 0, eq_ix1 y⟩
  refine (cast_box _ l).trans ?_
  show M.view.read (Elt F) f ((rowRect b r).emb (ix3 0 0 l)) = _
  rw [rowRect_emb]
  exact (read_slot M b f r l).symm

/-- After row `r` of slot `b` is stored, the slot reads the payload at row `r` and what it held elsewhere. -/
theorem store_row (M : Memref sig .scVector .vmem S2x500x16 .f32) (b : Fin 2) (r : Fin 500) (f : M.view.ty.Contents (Elt F))
    (w : Vec F S16 .f32) (i : Fin 500) (l : Fin 16) :
    (slot M b).view.read (Elt F) ((M.access (rowRect b r)).write (Elt F) f (shapeCast S1x1x16 w shapeCasts_S16_S1x1x16) Finset.univ) (ix2 i l)
      = if i = r then w (ix1 l) else (slot M b).view.read (Elt F) f (ix2 i l) := by
  rw [read_slot, read_slot]
  split
  · next h =>
    subst h
    rw [← rowRect_emb b i l]
    exact (View.read_slice_write_emb (v := M.view) (rowRect b i) f _ (Finset.mem_univ _)).trans (box_cast w l)
  · next h =>
    refine View.read_slice_write_of_not_mem (v := M.view) (rowRect b r) f _ _ fun hm => h ?_
    obtain ⟨x, -, hx⟩ := Finset.mem_map.mp hm
    have h1 : ((rowRect b r).emb x 1).val = i.val := congrArg (fun z : S2x500x16.Idx => (z 1).val) hx
    have hx1 : (x 1).val = 0 := by have : (x 1).val < 1 := (x 1).isLt; omega
    have h2 : ((rowRect b r).emb x 1).val = r.val + 1 * (x 1).val := rfl
    exact Fin.ext (by omega)

end Cert.Proof.Softmax
-- ==== Proof.Inner.lean ====
/-
  One trip of the inner loop — a row of a slot loaded, its softmax computed through the sixteen-lane scratch, and the row
  stored at the same place of the other buffer's slot — and the loop of 500 of them: from an input slot that reads `X` to
  an output slot that reads `softArr w X`.
-/
module

public import proofs.«01_k».proof.Proof.Base
public import proofs.«01_k».proof.Proof.Row

@[expose] public section

noncomputable section

namespace Cert.Proof.Softmax

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The accesses at an offset that is a row's -/

omit [FloatOps F] in
theorem load_sub (M : Memref sig .scVector .vmem S2x500x16 .f32) (b : Fin 2) (r : Fin 500) {o : Fin 3 → ℕ} (h : o = ![b.val, r.val, 0])
    (inb : ∀ a, o a + S1x1x16.size a ≤ S2x500x16.size a) :
    M.view.setOn (Rect.unit (s := S2x500x16) o S1x1x16.size inb).toLoadRect.set ⊆ (slot M b).view.set := by
  subst h
  have := rowRect_set_sub M b r
  rw [show (M.access (rowRect b r)).set = M.view.setOn (rowRect b r).set from View.set_slice _ _] at this
  exact this

omit [FloatOps F] in
theorem store_sub (M : Memref sig .scVector .vmem S2x500x16 .f32) (b : Fin 2) (r : Fin 500) {o : Fin 3 → ℕ} (h : o = ![b.val, r.val, 0])
    (inb : ∀ a, o a + S1x1x16.size a ≤ S2x500x16.size a) :
    (M.access (Rect.unit (s := S2x500x16) o S1x1x16.size inb)).setOn Finset.univ ⊆ (slot M b).view.set := by
  subst h
  exact rowRect_set_sub M b r

theorem load_row_of (M : Memref sig .scVector .vmem S2x500x16 .f32) (b : Fin 2) (r : Fin 500) {o : Fin 3 → ℕ} (h : o = ![b.val, r.val, 0])
    (inb : ∀ a, o a + S1x1x16.size a ≤ S2x500x16.size a) (f : M.view.ty.Contents (Elt F)) :
    shapeCast S16 (M.view.readAt (Elt F) (Rect.unit (s := S2x500x16) o S1x1x16.size inb).toLoadRect f) shapeCasts_S1x1x16_S16
      = rowOf ((slot M b).view.read (Elt F) f) r := by
  subst h; exact load_row M b r f

theorem store_row_of (M : Memref sig .scVector .vmem S2x500x16 .f32) (b : Fin 2) (r : Fin 500) {o : Fin 3 → ℕ} (h : o = ![b.val, r.val, 0])
    (inb : ∀ a, o a + S1x1x16.size a ≤ S2x500x16.size a) (f : M.view.ty.Contents (Elt F)) (w : Vec F S16 .f32) (i : Fin 500) (l : Fin 16) :
    (slot M b).view.read (Elt F) ((M.access (Rect.unit (s := S2x500x16) o S1x1x16.size inb)).write (Elt F) f
        (shapeCast S1x1x16 w shapeCasts_S16_S1x1x16) Finset.univ) (ix2 i l)
      = if i = r then w (ix1 l) else (slot M b).view.read (Elt F) f (ix2 i l) := by
  subst h; exact store_row M b r f w i l

/-! ## The accesses' rules, at the contents held by the buffers' own views -/

section Rules

/-- A store of all sixteen lanes. -/
theorem wp_lanes_store {c : Thread nD τ} {α : Type} {Q : α → sProp 𝕄} (M : Memref sig c.2.kind .vmem S16 .f32) {f : Buf (Elt F) (M.view.loc c)} {w : Vec F S16 .f32}
    {hx : (M.access (Rect.unit (s := S16) ![0] S16.size inb_S16_S16_0)).Stores Finset.univ} {hm}
    {k : PUnit → Prog (TpuEff nD τ sig (Elt F) Λ₀ c.2) α} :
    (M.view.loc c ↦[M.view.set]{fullShare} f)
      ⊢ iprop(((M.view.loc c ↦[M.view.set]{fullShare} ((M.access (Rect.unit (s := S16) ![0] S16.size inb_S16_S16_0)).write (Elt F) f w Finset.univ))
            -∗ wp frame (wpE (defs₀ (F := F)) 𝒱₀ c none) Set.univ (k ⟨⟩) Q)
          -∗ wp frame (wpE (defs₀ (F := F)) 𝒱₀ c none) Set.univ
            (.op (.store M (Rect.unit (s := S16) ![0] S16.size inb_S16_S16_0) w Finset.univ hx hm) k) Q) :=
  wp_store 𝒱₀ c none Set.univ (m := M) (r := Rect.unit (s := S16) ![0] S16.size inb_S16_S16_0) (S := M.view.set) (View.set_slice_subset _ _)

/-- A load of the lanes an index vector names, after such a store. -/
theorem wp_lanes_gather {c : Thread nD τ} {α : Type} {Q : α → sProp 𝕄} (M : Memref sig c.2.kind .vmem S16 .f32) {f : Buf (Elt F) (M.view.loc c)}
    {idxs : Fin S16.rank → IVec S16 32} {h : ∀ a x, (idxs a x).toNat < S16.size a} {hl : M.view.Loads}
    {k : Vec F S16 .f32 → Prog (TpuEff nD τ sig (Elt F) Λ₀ c.2) α} :
    (M.view.loc c ↦[M.view.set]{fullShare} f)
      ⊢ iprop(((M.view.loc c ↦[M.view.set]{fullShare} f)
            -∗ wp frame (wpE (defs₀ (F := F)) 𝒱₀ c none) Set.univ (k (loadIdx ((M.access (.whole S16)).read (Elt F) f) idxs h)) Q)
          -∗ wp frame (wpE (defs₀ (F := F)) 𝒱₀ c none) Set.univ (SparseCore.vectorLoadIdx M idxs h hl >>= k) Q) :=
  SparseCore.wp_vectorLoadIdx 𝒱₀ c none Set.univ (base := M) (S := M.view.set) (View.set_slice_subset _ _)

/-- A store of a row of a slot. -/
theorem wp_row_store {α : Type} {Q : α → sProp 𝕄} (M : Memref sig .scVector .vmem S2x500x16 .f32) (b : Fin 2) (r : Fin 500) {c : Fin τ.nSC} {j : Fin τ.nSub} {d : Dev nD}
    {o : Fin 3 → ℕ} (h : o = ![b.val, r.val, 0]) {inb : ∀ a, o a + S1x1x16.size a ≤ S2x500x16.size a}
    {f : Buf (Elt F) ((slot M b).view.loc (V d c j))} {w : Vec F S1x1x16 .f32}
    {hx : (M.access (Rect.unit (s := S2x500x16) o S1x1x16.size inb)).Stores Finset.univ} {hm}
    {k : PUnit → Prog (TpuEff nD τ sig (Elt F) Λ₀ (.scVector c j)) α} :
    ((slot M b).view.loc (V d c j) ↦[(slot M b).view.set]{fullShare} f)
      ⊢ iprop((((slot M b).view.loc (V d c j) ↦[(slot M b).view.set]{fullShare}
              ((M.access (Rect.unit (s := S2x500x16) o S1x1x16.size inb)).write (Elt F) f w Finset.univ))
            -∗ wp frame (wpE (defs₀ (F := F)) 𝒱₀ (V d c j) none) Set.univ (k ⟨⟩) Q)
          -∗ wp frame (wpE (defs₀ (F := F)) 𝒱₀ (V d c j) none) Set.univ
            (.op (.store M (Rect.unit (s := S2x500x16) o S1x1x16.size inb) w Finset.univ hx hm) k) Q) :=
  wp_store 𝒱₀ (V d c j) none Set.univ (m := M) (r := Rect.unit (s := S2x500x16) o S1x1x16.size inb) (S := (slot M b).view.set) (store_sub M b r h inb)

/-- A load of a row of a slot. -/
theorem wp_row_load {α : Type} {Q : α → sProp 𝕄} (M : Memref sig .scVector .vmem S2x500x16 .f32) (b : Fin 2) (r : Fin 500) {c : Fin τ.nSC} {j : Fin τ.nSub} {d : Dev nD}
    {o : Fin 3 → ℕ} (h : o = ![b.val, r.val, 0]) {inb : ∀ a, o a + S1x1x16.size a ≤ S2x500x16.size a}
    {f : Buf (Elt F) ((slot M b).view.loc (V d c j))} {hl : M.view.LoadsAt (Rect.unit (s := S2x500x16) o S1x1x16.size inb).toLoadRect}
    {k : Vec F S1x1x16 .f32 → Prog (TpuEff nD τ sig (Elt F) Λ₀ (.scVector c j)) α} :
    ((slot M b).view.loc (V d c j) ↦[(slot M b).view.set]{fullShare} f)
      ⊢ iprop((((slot M b).view.loc (V d c j) ↦[(slot M b).view.set]{fullShare} f)
            -∗ wp frame (wpE (defs₀ (F := F)) 𝒱₀ (V d c j) none) Set.univ
              (k (M.view.readAt (Elt F) (Rect.unit (s := S2x500x16) o S1x1x16.size inb).toLoadRect f)) Q)
          -∗ wp frame (wpE (defs₀ (F := F)) 𝒱₀ (V d c j) none) Set.univ
            (.op (.load M (Rect.unit (s := S2x500x16) o S1x1x16.size inb).toLoadRect hl) k) Q) :=
  wp_load 𝒱₀ (V d c j) none Set.univ (m := M) (S := (slot M b).view.set) (load_sub M b r h inb)

end Rules

/-! ## The loop -/

section Inner

variable (d : Dev nD) (i : grid0.Coords)
  (arg2 : Memref sig .scVector .hbm S16 .f32) (harg2 : arg2.IsWhole)
  (arg3 : Memref sig .scVector .hbm S320000x16 .f32) (harg3 : arg3.IsWhole)
  (arg4 : Memref sig .scVector .hbm S320000x16 .f32) (harg4 : arg4.IsWhole)
  (arg5 : Memref sig .scVector .vmem S16 .f32) (harg5 : arg5.IsWhole)
  (arg6 : Memref sig .scVector .vmem S2x500x16 .f32) (harg6 : arg6.IsWhole)
  (arg7 : Memref sig .scVector .vmem S2x500x16 .f32) (harg7 : arg7.IsWhole)
  (arg8 arg9 : DmaSems sig S2)
  (arg10 : Memref sig .scVector .vmem S16 .f32) (harg10 : arg10.IsWhole) (v42 : DmaSems sig S_)

/-- The tile's thread. -/
abbrev thr : Thread nD τ := V d (cV i) (jV i)

/-- The first `k` rows of output slot `b` are the softmax rows of `X`. -/
def rowsDone (b : Fin 2) (w : Vec F S16 .f32) (X : S500x16.Idx → Elt F .f32) (k : ℕ) : sProp 𝕄 :=
  iprop(∃ g : Buf (Elt F) ((slot arg7 b).view.loc (thr d i)), ⌜∀ r : Fin 500, r.val < k → ∀ l : Fin 16, (slot arg7 b).view.read (Elt F) g (ix2 r l) = softArr w X (ix2 r l)⌝
    ∗ (slot arg7 b).view.loc (thr d i) ↦[(slot arg7 b).view.set]{fullShare} g)

/-- The sixteen-lane scratch, at some contents. -/
def lanes : sProp 𝕄 := iprop(∃ g : Buf (Elt F) (arg10.view.loc (thr d i)), arg10.view.loc (thr d i) ↦[arg10.view.set]{fullShare} g)

/-- Before trip `k` of the inner loop. -/
def innerInv (b : Fin 2) (w : Vec F S16 .f32) (fx : Buf (Elt F) ((slot arg6 b).view.loc (thr d i))) (k : ℕ) : sProp 𝕄 :=
  iprop(((slot arg6 b).view.loc (thr d i) ↦[(slot arg6 b).view.set]{fullShare} fx)
    ∗ rowsDone d i arg7 b w ((slot arg6 b).view.read (Elt F) fx) k ∗ lanes d i arg10)

theorem inner_trip (w : Vec F S16 .f32) (t : Fin k0_t1_loop.trips) (r : Fin k0_t2_loop.trips) (v12 c0 c1 : BitVec 32)
    (fx : Buf (Elt F) ((slot arg6 (par t.val)).view.loc (thr d i))) :
    innerInv d i arg6 arg7 arg10 (par t.val) w fx r.val
      ⊢ wp frame (wpE (defs₀ (F := F)) 𝒱₀ (thr d i) none) Set.univ
          (k0_t2_body i arg2 harg2 arg3 harg3 arg4 harg4 arg5 harg5 arg6 harg6 arg7 harg7 arg8 arg9 arg10 harg10 v42
            w k0_pay6 chk1 k0_pay7 chk2 k0_pay8 chk3 k0_pay9 chk4 v12 c0 c1 t r ())
          fun _ => innerInv d i arg6 arg7 arg10 (par t.val) w fx (r.val + 1) := by
  have hr : r.val < 500 := lt_of_lt_of_eq r.isLt trips2
  have o11 : k0_off11 t r = ![(par t.val).val, (⟨r.val, hr⟩ : Fin 500).val, 0] := off11_eq t r
  have o12 : k0_off12 t r = ![(par t.val).val, (⟨r.val, hr⟩ : Fin 500).val, 0] := off12_eq t r
  unfold innerInv rowsDone lanes k0_t2_body
  simp only [Prog.lift, Prog.bind_op, Prog.bind_ret, Prog.pure_eq_ret]
  iintro ⟨Hx, ⟨%g, %hg, Ho⟩, ⟨%h, Hl⟩⟩
  iapply (wp_row_load arg6 _ _ o11) $$ Hx; iintro Hx
  iapply (wp_load 𝒱₀ (thr d i) none Set.univ (m := arg10) (View.setOn_subset_set _ _)) $$ Hl; iintro Hl
  iapply (wp_lanes_store (c := thr d i) arg10) $$ Hl; iintro Hl
  iapply (wp_lanes_gather (c := thr d i) arg10) $$ Hl; iintro Hl
  iapply (wp_load 𝒱₀ (thr d i) none Set.univ (m := arg10) (View.setOn_subset_set _ _)) $$ Hl; iintro Hl
  iapply (wp_lanes_store (c := thr d i) arg10) $$ Hl; iintro Hl
  iapply (wp_lanes_gather (c := thr d i) arg10) $$ Hl; iintro Hl
  iapply (wp_load 𝒱₀ (thr d i) none Set.univ (m := arg10) (View.setOn_subset_set _ _)) $$ Hl; iintro Hl
  iapply (wp_lanes_store (c := thr d i) arg10) $$ Hl; iintro Hl
  iapply (wp_lanes_gather (c := thr d i) arg10) $$ Hl; iintro Hl
  iapply (wp_load 𝒱₀ (thr d i) none Set.univ (m := arg10) (View.setOn_subset_set _ _)) $$ Hl; iintro Hl
  iapply (wp_lanes_store (c := thr d i) arg10) $$ Hl; iintro Hl
  iapply (wp_lanes_gather (c := thr d i) arg10) $$ Hl; iintro Hl
  iapply (wp_row_load arg7 _ _ o12) $$ Ho; iintro Ho
  iapply (wp_row_store arg7 _ _ o12) $$ Ho; iintro Ho
  rw [wp_ret]; imodintro
  isplitl [Hx]; · iexact Hx
  isplitl [Ho]
  · iexists _; isplitr
    rotate_left
    · iexact Ho
    · ipureintro
      intro r' hr' l
      rw [store_row_of arg7 _ _ o12 _ _ _ r' l]
      split
      · next e =>
        subst e
        exact congrFun (pay_rowOut _ _ _ (load_row_of arg6 _ _ o11 _ _) _ _ _ _
          (by rw [read_lanes]) (by rw [read_lanes]) (by rw [read_lanes]) (by rw [read_lanes])) (ix1 l)
      · next e =>
        exact hg r' (by have : r'.val ≠ r.val := fun h => e (Fin.ext h); omega) l
  · iexists _; iexact Hl

/-- The loop at the head of a program. -/
theorem inner_loop {β : Type} (w : Vec F S16 .f32) (t : Fin k0_t1_loop.trips) (v12 c0 c1 : BitVec 32)
    (fx : Buf (Elt F) ((slot arg6 (par t.val)).view.loc (thr d i)))
    {kk : Unit → Prog (TpuEff nD τ sig (Elt F) Λ₀ (thr d i).2) β} {Q : β → sProp 𝕄} :
    innerInv d i arg6 arg7 arg10 (par t.val) w fx 0
      ⊢ iprop((innerInv d i arg6 arg7 arg10 (par t.val) w fx 500 -∗ wp frame (wpE (defs₀ (F := F)) 𝒱₀ (thr d i) none) Set.univ (kk ()) Q)
        -∗ wp frame (wpE (defs₀ (F := F)) 𝒱₀ (thr d i) none) Set.univ
          (Scf.Loop.for k0_t2_loop k0_t2_ok ⟨⟩ (k0_t2_body i arg2 harg2 arg3 harg3 arg4 harg4 arg5 harg5 arg6 harg6 arg7 harg7 arg8 arg9 arg10 harg10 v42
            w k0_pay6 chk1 k0_pay7 chk2 k0_pay8 chk3 k0_pay9 chk4 v12 c0 c1 t) >>= kk) Q) := by
  iintro HI HK
  iapply (Scf.wp_for_bind frame (wpE (defs₀ (F := F)) 𝒱₀ (thr d i) none) Set.univ _ _ _ k0_t2_ok ()
    (k0_t2_body i arg2 harg2 arg3 harg3 arg4 harg4 arg5 harg5 arg6 harg6 arg7 harg7 arg8 arg9 arg10 harg10 v42
            w k0_pay6 chk1 k0_pay7 chk2 k0_pay8 chk3 k0_pay9 chk4 v12 c0 c1 t)
    (fun k _ => innerInv d i arg6 arg7 arg10 (par t.val) w fx k)
    (fun r _ => inner_trip d i arg2 harg2 arg3 harg3 arg4 harg4 arg5 harg5 arg6 harg6 arg7 harg7 arg8 arg9 arg10 harg10 v42 w t r v12 c0 c1 fx)) $$ HI
  iintro %_ HI
  iapply HK
  ihave H := (Entails.of_eq (congrArg (innerInv d i arg6 arg7 arg10 (par t.val) w fx) trips2)) $$ HI
  iexact H

end Inner

end Cert.Proof.Softmax
-- ==== Proof.Trip.lean ====
/-
  One trip of the outer loop — the next chunk's transfer in begun, this chunk's awaited, the transfer out of two trips ago
  awaited, the chunk's 500 rows computed, and their transfer out begun — as a step of the loop's invariant, which says of
  every chunk already sent out that it reads the softmax rows of the chunk that came in.
-/
module

public import proofs.«01_k».proof.Proof.Inner

@[expose] public section

noncomputable section

namespace Cert.Proof.Softmax

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

omit [FloatOps F] in
/-- A family over one more index. -/
theorem bigSep_more {I : Type} [DecidableEq I] {s : Finset I} {i : I} (hi : i ∉ s) (Φ : I → sProp 𝕄) :
    bigSep (insert i s) Φ = iprop(Φ i ∗ bigSep s Φ) := BI.bigSep_insert hi

omit [FloatOps F] in
/-- A conditional followed by more. -/
theorem dite_then {Eff : Type → Type} {α β : Type} {c : Prop} [Decidable c] (p : c → Prog Eff α) (q : ¬ c → Prog Eff α) (k : α → Prog Eff β) :
    (dite c p q >>= k) = dite c (fun h => p h >>= k) (fun h => q h >>= k) := by split <;> rfl

section Trip

variable (d : Dev nD) (i : grid0.Coords)
  (arg2 : Memref sig .scVector .hbm S16 .f32) (harg2 : arg2.IsWhole)
  (arg3 : Memref sig .scVector .hbm S320000x16 .f32) (harg3 : arg3.IsWhole)
  (arg4 : Memref sig .scVector .hbm S320000x16 .f32) (harg4 : arg4.IsWhole)
  (arg5 : Memref sig .scVector .vmem S16 .f32) (harg5 : arg5.IsWhole)
  (arg6 : Memref sig .scVector .vmem S2x500x16 .f32) (harg6 : arg6.IsWhole)
  (arg7 : Memref sig .scVector .vmem S2x500x16 .f32) (harg7 : arg7.IsWhole)
  (arg8 arg9 : DmaSems sig S2)
  (arg10 : Memref sig .scVector .vmem S16 .f32) (harg10 : arg10.IsWhole) (v42 : DmaSems sig S_)

/-! ## The pieces a trip passes on -/

/-- Chunk `k` of the argument, -/
def xChunk (fX : Buf (Elt F) (arg3.view.loc (thr d i))) (k : ℕ) : sProp 𝕄 :=
  iprop((chunk arg3 (chunkNo i k)).view.loc (thr d i) ↦[(chunk arg3 (chunkNo i k)).view.set]{fullShare} fX)

/-- and what it reads. -/
def xRead (fX : Buf (Elt F) (arg3.view.loc (thr d i))) (k : ℕ) : S500x16.Idx → Elt F .f32 :=
  (chunk arg3 (chunkNo i k)).view.read (Elt F) fX

/-- An input slot at some contents. -/
def inAny (b : Fin 2) : sProp 𝕄 :=
  iprop(∃ g : Buf (Elt F) ((slot arg6 b).view.loc (thr d i)), (slot arg6 b).view.loc (thr d i) ↦[(slot arg6 b).view.set]{fullShare} g)

/-- An input slot that reads chunk `k`. -/
def inFull (fX : Buf (Elt F) (arg3.view.loc (thr d i))) (b : Fin 2) (k : ℕ) : sProp 𝕄 :=
  iprop(∃ g : Buf (Elt F) ((slot arg6 b).view.loc (thr d i)), ⌜(slot arg6 b).view.read (Elt F) g = xRead d i arg3 fX k⌝
    ∗ (slot arg6 b).view.loc (thr d i) ↦[(slot arg6 b).view.set]{fullShare} g)

/-- An input slot with no transfer into it, and its semaphore. -/
def inFree (b : Fin 2) : sProp 𝕄 := iprop(semVal (thr d i, SemLoc.dma (cell arg8 b)) 0 ∗ inAny d i arg6 b)

/-- Chunk `k` on its way into a slot. -/
def inFlight (fX : Buf (Elt F) (arg3.view.loc (thr d i))) (b : Fin 2) (k : ℕ) : sProp 𝕄 :=
  Transfers.Flight EC (thr d i) (SemLoc.dma (cell arg8 b)) none (slot arg6 b).view.dmaCredit iprop(inFull d i arg3 arg6 fX b k ∗ xChunk d i arg3 fX k)

/-- Chunk `k` of the result at some contents, -/
def oTodo (k : ℕ) : sProp 𝕄 :=
  iprop(∃ g : Buf (Elt F) ((chunk arg4 (chunkNo i k)).view.loc (thr d i)),
    (chunk arg4 (chunkNo i k)).view.loc (thr d i) ↦[(chunk arg4 (chunkNo i k)).view.set]{fullShare} g)

/-- and holding the softmax rows of the argument's. -/
def oDone (fX : Buf (Elt F) (arg3.view.loc (thr d i))) (w : Vec F S16 .f32) (k : ℕ) : sProp 𝕄 :=
  iprop(∃ g : Buf (Elt F) ((chunk arg4 (chunkNo i k)).view.loc (thr d i)),
    ⌜(chunk arg4 (chunkNo i k)).view.read (Elt F) g = softArr w (xRead d i arg3 fX k)⌝
    ∗ (chunk arg4 (chunkNo i k)).view.loc (thr d i) ↦[(chunk arg4 (chunkNo i k)).view.set]{fullShare} g)

/-- An output slot at some contents, -/
def outAny (b : Fin 2) : sProp 𝕄 :=
  iprop(∃ g : Buf (Elt F) ((slot arg7 b).view.loc (thr d i)), (slot arg7 b).view.loc (thr d i) ↦[(slot arg7 b).view.set]{fullShare} g)

/-- with no transfer out of it, and its semaphore, -/
def outFree (b : Fin 2) : sProp 𝕄 := iprop(semVal (thr d i, SemLoc.dma (cell arg9 b)) 0 ∗ outAny d i arg7 b)

/-- and with chunk `k` on its way out of it. -/
def outFlight (fX : Buf (Elt F) (arg3.view.loc (thr d i))) (w : Vec F S16 .f32) (b : Fin 2) (k : ℕ) : sProp 𝕄 :=
  Transfers.Flight EC (thr d i) (SemLoc.dma (cell arg9 b)) none (chunk arg4 0).view.dmaCredit
    iprop(oDone d i arg3 arg4 fX w k ∗ outAny d i arg7 b)

/-- The input slot of trip `k` before it: its chunk on the way in, if there is such a trip. -/
def inPend (fX : Buf (Elt F) (arg3.view.loc (thr d i))) (k : ℕ) : sProp 𝕄 :=
  if k < 20 then inFlight d i arg3 arg6 arg8 fX (par k) k else inFree d i arg6 arg8 (par k)

/-- The output slot of trip `k` before it: chunk `k - 2` on the way out, if there is one. -/
def outPend (fX : Buf (Elt F) (arg3.view.loc (thr d i))) (w : Vec F S16 .f32) (k : ℕ) : sProp 𝕄 :=
  if 2 ≤ k then outFlight d i arg3 arg4 arg7 arg9 fX w (par k) (k - 2) else outFree d i arg7 arg9 (par k)

/-- What the thread owes, with the waits it has made. -/
def owing (O : CellTallies nD τ sig (HIx 2)) (W : Waits sig (HIx 2)) : sProp 𝕄 :=
  iprop(∃ W' : Waits sig (HIx 2), ⌜∀ p ∈ W', p ∈ W ∨ p.2 = none⌝ ∗ owes (thr d i) O W')

/-! ## The transfers -/

section Steps

variable {O : CellTallies nD τ sig (HIx 2)} {W : Waits sig (HIx 2)}

/-- A chunk's transfer into a free slot begun. -/
theorem wp_fetch {α : Type} {Q : α → sProp 𝕄} (fX : Buf (Elt F) (arg3.view.loc (thr d i))) (b : Fin 2) (k : ℕ)
    {src : Memref sig .scVector .hbm S500x16 .f32} (hs : src = chunk arg3 (chunkNo i k))
    {dst : Memref sig .scVector .vmem S500x16 .f32} (hd : dst = slot arg6 b) {sm : DmaSem sig} (hm : sm = cell arg8 b)
    {w1 : src.view.WordExact} {w2 : dst.view.WordExact}
    {w3 : DmaTarget.Typed (nD := nD) (τ := τ) (p := (thr d i).2) .hbm (.dma sm) (.here dst)}
    {kk : PUnit → Prog (TpuEff nD τ sig (Elt F) Λ₀ (thr d i).2) α} :
    iprop(inFree d i arg6 arg8 b ∗ xChunk d i arg3 fX k)
      ⊢ iprop((inFlight d i arg3 arg6 arg8 fX b k -∗ wp frame (wpE (defs₀ (F := F)) 𝒱₀ (thr d i) none) Set.univ (kk ⟨⟩) Q)
        -∗ wp frame (wpE (defs₀ (F := F)) 𝒱₀ (thr d i) none) Set.univ (.op (.enqueueDma src (.here dst) (.dma sm) w1 w2 w3) kk) Q) := by
  subst hs; subst hd; subst hm
  unfold inFree inAny xChunk inFlight
  iintro ⟨⟨Hv, ⟨%g, Hd⟩⟩, Hs⟩ HK
  iapply (Transfers.wp_dmaLocal EC 𝒱₀ (thr d i) none (none : HIx 2) (slot arg6 b).view.dmaCredit rfl
    (View.dmaCredit_pos _ (by decide)) (Finset.Subset.refl _)) $$ [Hs Hd Hv]
  · isplitl [Hs]; · iexact Hs
    isplitl [Hd]; · iexact Hd
    iexact Hv
  iintro HF
  iapply HK
  iapply (Transfers.Flight_mono EC (thr d i) ?_) $$ HF
  unfold inFull xChunk xRead
  iintro ⟨Hd, Hs⟩
  isplitl [Hd]
  · iexists _; isplitr
    rotate_left
    · iexact Hd
    · ipureintro
      exact View.read_write_univ _ _
  · iexact Hs

/-- A slot's chunk awaited. -/
theorem wp_fetched {α : Type} {Q : α → sProp 𝕄} (hO : ∀ g, O g none = 0) (fX : Buf (Elt F) (arg3.view.loc (thr d i))) (b : Fin 2) (k : ℕ)
    {src : Memref sig .scVector .hbm S500x16 .f32}
    {dst : Memref sig .scVector .vmem S500x16 .f32} (hd : dst = slot arg6 b) {sm : DmaSem sig} (hm : sm = cell arg8 b)
    {w1 : src.view.WordExact} {w2 : dst.view.WordExact}
    {kk : PUnit → Prog (TpuEff nD τ sig (Elt F) Λ₀ (thr d i).2) α} :
    iprop(levAts (K (F := F)).L (K (F := F)).lev ∗ inFlight d i arg3 arg6 arg8 fX b k ∗ owing d i O W)
      ⊢ iprop((iprop(inFull d i arg3 arg6 fX b k ∗ xChunk d i arg3 fX k ∗ semVal (thr d i, SemLoc.dma (cell arg8 b)) 0 ∗ owing d i O W)
          -∗ wp frame (wpE (defs₀ (F := F)) 𝒱₀ (thr d i) none) Set.univ (kk ⟨⟩) Q)
        -∗ wp frame (wpE (defs₀ (F := F)) 𝒱₀ (thr d i) none) Set.univ (.op (.waitDma2 sm src dst w1 w2) kk) Q) := by
  subst hd; subst hm
  unfold inFlight owing
  iintro ⟨Hlev, HF, ⟨%W', %hW, HO⟩⟩ HK
  ihave Hmw := ((K (F := F)).mayWait_none (SemLoc.dma (cell arg8 b)) hO) $$ Hlev
  iapply (Transfers.wp_waitLocalO EC 𝒱₀ (thr d i) none (none : HIx 2) rfl) $$ [HF HO Hmw]
  · isplitl [HF]; · iexact HF
    isplitl [HO]; · iexact HO
    iexact Hmw
  iintro ⟨⟨Hd, Hs⟩, Hv, HO⟩
  iapply HK
  isplitl [Hd]; · iexact Hd
  isplitl [Hs]; · iexact Hs
  isplitl [Hv]; · iexact Hv
  iexists _; isplitr
  rotate_left
  · iexact HO
  · ipureintro
    intro p hp
    rcases Finset.mem_insert.mp hp with rfl | hp
    · exact Or.inr rfl
    · exact hW p hp

/-- A computed slot's transfer out begun. -/
theorem wp_send {α : Type} {Q : α → sProp 𝕄} (fX : Buf (Elt F) (arg3.view.loc (thr d i))) (w : Vec F S16 .f32) (b : Fin 2) (k : ℕ)
    {src : Memref sig .scVector .vmem S500x16 .f32} (hs : src = slot arg7 b)
    {dst : Memref sig .scVector .hbm S500x16 .f32} (hd : dst = chunk arg4 (chunkNo i k)) {sm : DmaSem sig} (hm : sm = cell arg9 b)
    {w1 : src.view.WordExact} {w2 : dst.view.WordExact}
    {w3 : DmaTarget.Typed (nD := nD) (τ := τ) (p := (thr d i).2) .vmem (.dma sm) (.here dst)}
    {kk : PUnit → Prog (TpuEff nD τ sig (Elt F) Λ₀ (thr d i).2) α} :
    iprop(semVal (thr d i, SemLoc.dma (cell arg9 b)) 0 ∗ rowsDone d i arg7 b w (xRead d i arg3 fX k) 500 ∗ oTodo d i arg4 k)
      ⊢ iprop((outFlight d i arg3 arg4 arg7 arg9 fX w b k -∗ wp frame (wpE (defs₀ (F := F)) 𝒱₀ (thr d i) none) Set.univ (kk ⟨⟩) Q)
        -∗ wp frame (wpE (defs₀ (F := F)) 𝒱₀ (thr d i) none) Set.univ (.op (.enqueueDma src (.here dst) (.dma sm) w1 w2 w3) kk) Q) := by
  subst hs; subst hd; subst hm
  unfold rowsDone oTodo outFlight
  iintro ⟨Hv, ⟨%f, %hf, Hs⟩, ⟨%g, Hd⟩⟩ HK
  iapply (Transfers.wp_dmaLocal EC 𝒱₀ (thr d i) none (none : HIx 2) (chunk arg4 0).view.dmaCredit rfl
    (View.dmaCredit_pos _ (by decide)) (Finset.Subset.refl _)) $$ [Hs Hd Hv]
  · isplitl [Hs]; · iexact Hs
    isplitl [Hd]; · iexact Hd
    iexact Hv
  iintro HF
  iapply HK
  iapply (Transfers.Flight_mono EC (thr d i) ?_) $$ HF
  unfold oDone outAny
  iintro ⟨Hd, Hs⟩
  isplitl [Hd]
  · iexists _; isplitr
    rotate_left
    · iexact Hd
    · ipureintro
      rw [View.read_write_univ]
      funext x
      have := hf (x 0) (x 0).isLt (x 1)
      have e : (ix2 (x 0) (x 1) : S500x16.Idx) = x := (eq_ix2 x).symm
      rw [e] at this
      exact this
  · iexists _; iexact Hs

/-- A slot's transfer out awaited. -/
theorem wp_sent {α : Type} {Q : α → sProp 𝕄} (hO : ∀ g, O g none = 0) (fX : Buf (Elt F) (arg3.view.loc (thr d i))) (w : Vec F S16 .f32) (b : Fin 2) (k : ℕ)
    {src : Memref sig .scVector .vmem S500x16 .f32}
    {sm : DmaSem sig} {dst : Memref sig .scVector .hbm S500x16 .f32}
    (hd : dst.view.dmaCredit = (chunk arg4 0).view.dmaCredit) (hm : sm = cell arg9 b)
    {w1 : src.view.WordExact} {w2 : dst.view.WordExact}
    {kk : PUnit → Prog (TpuEff nD τ sig (Elt F) Λ₀ (thr d i).2) α} :
    iprop(levAts (K (F := F)).L (K (F := F)).lev ∗ outFlight d i arg3 arg4 arg7 arg9 fX w b k ∗ owing d i O W)
      ⊢ iprop((iprop(oDone d i arg3 arg4 fX w k ∗ outFree d i arg7 arg9 b ∗ owing d i O W)
          -∗ wp frame (wpE (defs₀ (F := F)) 𝒱₀ (thr d i) none) Set.univ (kk ⟨⟩) Q)
        -∗ wp frame (wpE (defs₀ (F := F)) 𝒱₀ (thr d i) none) Set.univ (.op (.waitDma2 sm src dst w1 w2) kk) Q) := by
  subst hm
  unfold outFlight owing
  iintro ⟨Hlev, HF, ⟨%W', %hW, HO⟩⟩ HK
  ihave Hmw := ((K (F := F)).mayWait_none (SemLoc.dma (cell arg9 b)) hO) $$ Hlev
  iapply (Transfers.wp_waitLocalO EC 𝒱₀ (thr d i) none (none : HIx 2) hd) $$ [HF HO Hmw]
  · isplitl [HF]; · iexact HF
    isplitl [HO]; · iexact HO
    iexact Hmw
  iintro ⟨⟨Hd, Hs⟩, Hv, HO⟩
  iapply HK
  isplitl [Hd]; · iexact Hd
  isplitl [Hs Hv]
  · unfold outFree
    isplitl [Hv]; · iexact Hv
    iexact Hs
  iexists _; isplitr
  rotate_left
  · iexact HO
  · ipureintro
    intro p hp
    rcases Finset.mem_insert.mp hp with rfl | hp
    · exact Or.inr rfl
    · exact hW p hp

end Steps

/-! ## The steps under a condition -/

section Conditional

variable {O : CellTallies nD τ sig (HIx 2)} {W : Waits sig (HIx 2)}

/-- The next trip's chunk is fetched if there is a next trip. -/
theorem step_fetch {α : Type} {Q : α → sProp 𝕄} (fX : Buf (Elt F) (arg3.view.loc (thr d i))) (t : Fin k0_t1_loop.trips)
    {src : k0_cond1 t = 1#1 → Memref sig .scVector .hbm S500x16 .f32} (hs : ∀ h, src h = chunk arg3 (chunkNo i (t.val + 1)))
    {dst : k0_cond1 t = 1#1 → Memref sig .scVector .vmem S500x16 .f32} (hd : ∀ h, dst h = slot arg6 (par (t.val + 1)))
    {sm : k0_cond1 t = 1#1 → DmaSem sig} (hm : ∀ h, sm h = cell arg8 (par (t.val + 1)))
    {w1 : ∀ h, (src h).view.WordExact} {w2 : ∀ h, (dst h).view.WordExact}
    {w3 : ∀ h, DmaTarget.Typed (nD := nD) (τ := τ) (p := (thr d i).2) .hbm (.dma (sm h)) (.here (dst h))}
    {J : Prog (TpuEff nD τ sig (Elt F) Λ₀ (thr d i).2) α} :
    iprop(inFree d i arg6 arg8 (par (t.val + 1)) ∗ bigSep ((Finset.range 20).erase t.val) (xChunk d i arg3 fX))
      ⊢ iprop((iprop(inPend d i arg3 arg6 arg8 fX (t.val + 1) ∗ bigSep (((Finset.range 20).erase t.val).erase (t.val + 1)) (xChunk d i arg3 fX))
          -∗ wp frame (wpE (defs₀ (F := F)) 𝒱₀ (thr d i) none) Set.univ J Q)
        -∗ wp frame (wpE (defs₀ (F := F)) 𝒱₀ (thr d i) none) Set.univ
          (if h : k0_cond1 t = 1#1 then .op (.enqueueDma (src h) (.here (dst h)) (.dma (sm h)) (w1 h) (w2 h) (w3 h)) fun _ => J else J) Q) := by
  have ht : t.val < 20 := lt_of_lt_of_eq t.isLt trips1
  by_cases h : k0_cond1 t = 1#1
  · have h20 := (cond1_iff t).mp h
    rw [dif_pos h, show inPend d i arg3 arg6 arg8 fX (t.val + 1) = inFlight d i arg3 arg6 arg8 fX (par (t.val + 1)) (t.val + 1) from if_pos h20,
      SparseCore.bigSep_erase' (show t.val + 1 ∈ (Finset.range 20).erase t.val from
        Finset.mem_erase.mpr ⟨by omega, Finset.mem_range.mpr h20⟩)]
    iintro ⟨Hf, Hx, Hxs⟩ HK
    iapply (wp_fetch d i arg3 arg6 arg8 fX (par (t.val + 1)) (t.val + 1) (hs h) (hd h) (hm h)) $$ [Hf Hx]
    · isplitl [Hf]; · iexact Hf
      iexact Hx
    iintro HF
    iapply HK
    isplitl [HF]; · iexact HF
    iexact Hxs
  · have h20 : ¬ (t.val + 1 < 20) := fun h' => h ((cond1_iff t).mpr h')
    rw [dif_neg h, show inPend d i arg3 arg6 arg8 fX (t.val + 1) = inFree d i arg6 arg8 (par (t.val + 1)) from if_neg h20,
      Finset.erase_eq_of_notMem (show t.val + 1 ∉ (Finset.range 20).erase t.val from fun h' => h20 (Finset.mem_range.mp (Finset.mem_of_mem_erase h')))]
    iintro H HK
    iapply HK; iexact H

/-- The transfer of two trips ago is awaited if there was one. -/
theorem step_sent {α : Type} {Q : α → sProp 𝕄} (hO : ∀ g, O g none = 0) (fX : Buf (Elt F) (arg3.view.loc (thr d i))) (w : Vec F S16 .f32) (t : Fin k0_t1_loop.trips)
    {src : k0_cond2 t = 1#1 → Memref sig .scVector .vmem S500x16 .f32}
    {dst : k0_cond2 t = 1#1 → Memref sig .scVector .hbm S500x16 .f32} (hd : ∀ h, (dst h).view.dmaCredit = (chunk arg4 0).view.dmaCredit)
    {sm : k0_cond2 t = 1#1 → DmaSem sig} (hm : ∀ h, sm h = cell arg9 (par t.val))
    {w1 : ∀ h, (src h).view.WordExact} {w2 : ∀ h, (dst h).view.WordExact}
    {J : Prog (TpuEff nD τ sig (Elt F) Λ₀ (thr d i).2) α} :
    iprop(levAts (K (F := F)).L (K (F := F)).lev ∗ outPend d i arg3 arg4 arg7 arg9 fX w t.val
        ∗ bigSep (Finset.range (t.val - 2)) (oDone d i arg3 arg4 fX w) ∗ owing d i O W)
      ⊢ iprop((iprop(outFree d i arg7 arg9 (par t.val) ∗ bigSep (Finset.range (t.val + 1 - 2)) (oDone d i arg3 arg4 fX w) ∗ owing d i O W)
          -∗ wp frame (wpE (defs₀ (F := F)) 𝒱₀ (thr d i) none) Set.univ J Q)
        -∗ wp frame (wpE (defs₀ (F := F)) 𝒱₀ (thr d i) none) Set.univ
          (if h : k0_cond2 t = 1#1 then .op (.waitDma2 (sm h) (src h) (dst h) (w1 h) (w2 h)) fun _ => J else J) Q) := by
  by_cases h : k0_cond2 t = 1#1
  · have h2 := (cond2_iff t).mp h
    rw [dif_pos h, show outPend d i arg3 arg4 arg7 arg9 fX w t.val = outFlight d i arg3 arg4 arg7 arg9 fX w (par t.val) (t.val - 2) from if_pos h2,
      show t.val + 1 - 2 = (t.val - 2) + 1 by omega, Finset.range_add_one, bigSep_more Finset.notMem_range_self]
    iintro ⟨Hlev, HF, Hd, HO⟩ HK
    iapply (wp_sent d i arg3 arg4 arg7 arg9 hO fX w (par t.val) (t.val - 2) (hd h) (hm h)) $$ [Hlev HF HO]
    · isplitl [Hlev]; · iexact Hlev
      isplitl [HF]; · iexact HF
      iexact HO
    iintro ⟨Hn, Hf, HO⟩
    iapply HK
    isplitl [Hf]; · iexact Hf
    isplitl [Hn Hd]
    · isplitl [Hn]; · iexact Hn
      iexact Hd
    iexact HO
  · have h2 : ¬ (2 ≤ t.val) := fun h' => h ((cond2_iff t).mpr h')
    rw [dif_neg h, show outPend d i arg3 arg4 arg7 arg9 fX w t.val = outFree d i arg7 arg9 (par t.val) from if_neg h2,
      show t.val + 1 - 2 = t.val - 2 by omega]
    iintro ⟨-, Hf, Hd, HO⟩ HK
    iapply HK
    isplitl [Hf]; · iexact Hf
    isplitl [Hd]; · iexact Hd
    iexact HO

end Conditional

/-! ## The trip -/

/-- Before trip `k` of the outer loop. -/
def tripInv (O : CellTallies nD τ sig (HIx 2)) (W : Waits sig (HIx 2)) (fX : Buf (Elt F) (arg3.view.loc (thr d i))) (w : Vec F S16 .f32) (k : ℕ) : sProp 𝕄 :=
  iprop(levAts (K (F := F)).L (K (F := F)).lev ∗ lanes d i arg10 ∗ owing d i O W
    ∗ inPend d i arg3 arg6 arg8 fX k ∗ inFree d i arg6 arg8 (par (k + 1)) ∗ bigSep ((Finset.range 20).erase k) (xChunk d i arg3 fX)
    ∗ outPend d i arg3 arg4 arg7 arg9 fX w k ∗ outPend d i arg3 arg4 arg7 arg9 fX w (k + 1)
    ∗ bigSep (Finset.range (k - 2)) (oDone d i arg3 arg4 fX w) ∗ bigSep (Finset.Ico k 20) (oTodo d i arg4))

set_option maxHeartbeats 4000000 in
theorem trip (O : CellTallies nD τ sig (HIx 2)) (hO : ∀ g, O g none = 0) (W : Waits sig (HIx 2)) (fX : Buf (Elt F) (arg3.view.loc (thr d i))) (w : Vec F S16 .f32)
    (t : Fin k0_t1_loop.trips) (v12 a : BitVec 32) :
    tripInv d i arg3 arg4 arg6 arg7 arg8 arg9 arg10 O W fX w t.val
      ⊢ wp frame (wpE (defs₀ (F := F)) 𝒱₀ (thr d i) none) Set.univ
          (k0_t1_body i arg2 harg2 arg3 harg3 arg4 harg4 arg5 harg5 arg6 harg6 arg7 harg7 arg8 arg9 arg10 harg10 v42
            w k0_pay6 chk1 k0_pay7 chk2 k0_pay8 chk3 k0_pay9 chk4 v12 t a)
          fun _ => tripInv d i arg3 arg4 arg6 arg7 arg8 arg9 arg10 O W fX w (t.val + 1) := by
  have ht : t.val < 20 := lt_of_lt_of_eq t.isLt trips1
  unfold tripInv k0_t1_body
  rw [k0_part1_eq_skeleton]
  unfold k0_part1_skel
  rw [show inPend d i arg3 arg6 arg8 fX t.val = inFlight d i arg3 arg6 arg8 fX (par t.val) t.val from if_pos ht,
    show outPend d i arg3 arg4 arg7 arg9 fX w (t.val + 1 + 1) = outFlight d i arg3 arg4 arg7 arg9 fX w (par t.val) t.val from by
      unfold outPend; rw [if_pos (by omega), show t.val + 1 + 1 = t.val + 2 from rfl, par_add_two, Nat.add_sub_cancel],
    show par (t.val + 1 + 1) = par t.val from par_add_two _,
    show Finset.Ico t.val 20 = insert t.val (Finset.Ico (t.val + 1) 20) from by ext x; simp only [Finset.mem_Ico, Finset.mem_insert]; omega,
    bigSep_more (show t.val ∉ Finset.Ico (t.val + 1) 20 by simp),
    SparseCore.bigSep_erase' (Φ := xChunk d i arg3 fX) (show t.val ∈ (Finset.range 20).erase (t.val + 1) from
        Finset.mem_erase.mpr ⟨by omega, Finset.mem_range.mpr ht⟩), Finset.erase_right_comm (a := t.val + 1)]
  simp only [Prog.lift, Prog.bind_op, Prog.bind_ret, Prog.pure_eq_ret, bind_assoc, dite_then]
  iintro ⟨#Hlev, Hl, HO, HF, Hfree, Hxs, Ho0, Ho1, Hdone, Htodo, Htodos⟩
  iapply (step_fetch d i arg3 arg6 arg8 fX t
    (fun h => chunk_of arg3 (off3_eq i t ((cond1_iff t).mp h)) (k0_off3_inb i t h))
    (fun h => slot_of arg6 (off2_eq t) (k0_off2_inb t h))
    (fun h => cell_of arg8 (off4_eq t) (k0_off4_inb t h))) $$ [Hfree Hxs]
  · isplitl [Hfree]; · iexact Hfree
    iexact Hxs
  iintro ⟨Hin, Hxs⟩
  iapply (wp_fetched d i arg3 arg6 arg8 hO fX (par t.val) t.val (slot_of arg6 (off5_eq t) (k0_off5_inb t))
    (cell_of arg8 (off7_eq t) (k0_off7_inb t))) $$ [HF HO]
  · isplitr; · iexact Hlev
    isplitl [HF]; · iexact HF
    iexact HO
  iintro ⟨Hin0, Hx, Hv, HO⟩
  iapply (step_sent d i arg3 arg4 arg7 arg9 hO fX w t
    (dst := fun h => arg4.slice (Rect.unit (s := S320000x16) (k0_off9 i t) S500x16.size (k0_off9_inb i t h)) (fun _ => rfl)) (fun h => rfl)
    (fun h => cell_of arg9 (off10_eq t) (k0_off10_inb t h))) $$ [Ho0 Hdone HO]
  · isplitr; · iexact Hlev
    isplitl [Ho0]; · iexact Ho0
    isplitl [Hdone]; · iexact Hdone
    iexact HO
  unfold inFull outFree outAny
  iintro ⟨⟨Hv', ⟨%g, Ho⟩⟩, Hdone, HO⟩
  icases Hin0 with ⟨%fx, %hfx, Hs⟩
  iapply (inner_loop d i arg2 harg2 arg3 harg3 arg4 harg4 arg5 harg5 arg6 harg6 arg7 harg7 arg8 arg9 arg10 harg10 v42 w t v12 0#32 1#32 fx) $$ [Hs Ho Hl]
  · unfold innerInv
    isplitl [Hs]; · iexact Hs
    isplitl [Ho]
    · unfold rowsDone; iexists g; isplitr
      · ipureintro; intro r hr; exact absurd hr (Nat.not_lt_zero _)
      · iexact Ho
    · iexact Hl
  unfold innerInv
  iintro ⟨Hs, Hrows, Hl⟩
  rw [hfx]
  iapply (wp_send d i arg3 arg4 arg7 arg9 fX w (par t.val) t.val (slot_of arg7 (off13_eq t) (k0_off13_inb t))
    (chunk_of arg4 (off14_eq i t ht) (k0_off14_inb i t)) (cell_of arg9 (off15_eq t) (k0_off15_inb t))) $$ [Hv' Hrows Htodo]
  · isplitl [Hv']; · iexact Hv'
    isplitl [Hrows]; · iexact Hrows
    iexact Htodo
  iintro Hout
  rw [wp_ret]; imodintro
  isplitr; · iexact Hlev
  isplitl [Hl]; · iexact Hl
  isplitl [HO]; · iexact HO
  isplitl [Hin]; · iexact Hin
  isplitl [Hv Hs]
  · unfold inFree inAny
    isplitl [Hv]; · iexact Hv
    iexists fx; iexact Hs
  isplitl [Hx Hxs]
  · isplitl [Hx]; · iexact Hx
    iexact Hxs
  isplitl [Ho1]; · iexact Ho1
  isplitl [Hout]; · iexact Hout
  isplitl [Hdone]; · iexact Hdone
  iexact Htodos

/-- The loop of twenty at the head of a program. -/
theorem outer_loop {β : Type} (O : CellTallies nD τ sig (HIx 2)) (hO : ∀ g, O g none = 0) (W : Waits sig (HIx 2)) (fX : Buf (Elt F) (arg3.view.loc (thr d i)))
    (w : Vec F S16 .f32) (v12 a : BitVec 32) {kk : BitVec 32 → Prog (TpuEff nD τ sig (Elt F) Λ₀ (thr d i).2) β} {Q : β → sProp 𝕄} :
    tripInv d i arg3 arg4 arg6 arg7 arg8 arg9 arg10 O W fX w 0
      ⊢ iprop((∀ b, tripInv d i arg3 arg4 arg6 arg7 arg8 arg9 arg10 O W fX w 20 -∗ wp frame (wpE (defs₀ (F := F)) 𝒱₀ (thr d i) none) Set.univ (kk b) Q)
        -∗ wp frame (wpE (defs₀ (F := F)) 𝒱₀ (thr d i) none) Set.univ
          (Scf.Loop.for k0_t1_loop k0_t1_ok a (k0_t1_body i arg2 harg2 arg3 harg3 arg4 harg4 arg5 harg5 arg6 harg6 arg7 harg7 arg8 arg9 arg10 harg10 v42
            w k0_pay6 chk1 k0_pay7 chk2 k0_pay8 chk3 k0_pay9 chk4 v12) >>= kk) Q) := by
  iintro HI HK
  iapply (Scf.wp_for_bind frame (wpE (defs₀ (F := F)) 𝒱₀ (thr d i) none) Set.univ _ _ _ k0_t1_ok a
    (k0_t1_body i arg2 harg2 arg3 harg3 arg4 harg4 arg5 harg5 arg6 harg6 arg7 harg7 arg8 arg9 arg10 harg10 v42
            w k0_pay6 chk1 k0_pay7 chk2 k0_pay8 chk3 k0_pay9 chk4 v12)
    (fun k _ => tripInv d i arg3 arg4 arg6 arg7 arg8 arg9 arg10 O W fX w k)
    (fun t b => trip d i arg2 harg2 arg3 harg3 arg4 harg4 arg5 harg5 arg6 harg6 arg7 harg7 arg8 arg9 arg10 harg10 v42 O hO W fX w t v12 b)) $$ HI
  iintro %b HI
  ispecialize HK $$ %b
  iapply HK
  ihave H := (Entails.of_eq (congrArg (tripInv d i arg3 arg4 arg6 arg7 arg8 arg9 arg10 O W fX w) trips1)) $$ HI
  iexact H

end Trip

end Cert.Proof.Softmax
-- ==== Proof.Body.lean ====
/-
  The whole body of a tile: the reciprocal temperature's transfer, the first chunk's, the twenty trips, and the last two
  transfers' waits — from its twenty chunks of the argument and of the result to the result's chunks holding the softmax
  rows of the argument's.
-/
module

public import proofs.«01_k».proof.Proof.Trip

@[expose] public section

noncomputable section

namespace Cert.Proof.Softmax

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

omit [FloatOps F] in
/-- A load of all sixteen lanes reads the buffer. -/
theorem readAt_lanes (M : Memref sig .scVector .vmem S16 .f32) (f : M.view.ty.Contents (Elt F)) :
    M.view.readAt (Elt F) (Rect.unit (s := S16) ![0] S16.size inb_S16_S16_0).toLoadRect f = M.view.read (Elt F) f := by
  funext x
  show M.view.read (Elt F) f ((Rect.unit (s := S16) ![0] S16.size inb_S16_S16_0).emb x) = _
  congr 1
  funext a; fin_cases a; apply Fin.ext
  show 0 + 1 * (x 0).val = (x 0).val; omega

omit [FloatOps F] in
theorem cell_zero (A : DmaSems sig S2) : ((A.slice (Rect.unit (s := S2) ![0] S1.size inb_S2_S1_0)).squeeze S_ squeezes_S1_S_).sem = cell A 0 := rfl
omit [FloatOps F] in
theorem cell_one (A : DmaSems sig S2) : ((A.slice (Rect.unit (s := S2) ![1] S1.size inb_S2_S1_1)).squeeze S_ squeezes_S1_S_).sem = cell A 1 := rfl

section Body

variable (d : Dev nD) (i : grid0.Coords)
  (arg2 : Memref sig .scVector .hbm S16 .f32) (harg2 : arg2.IsWhole)
  (arg3 : Memref sig .scVector .hbm S320000x16 .f32) (harg3 : arg3.IsWhole)
  (arg4 : Memref sig .scVector .hbm S320000x16 .f32) (harg4 : arg4.IsWhole)
  (arg5 : Memref sig .scVector .vmem S16 .f32) (harg5 : arg5.IsWhole)
  (arg6 : Memref sig .scVector .vmem S2x500x16 .f32) (harg6 : arg6.IsWhole)
  (arg7 : Memref sig .scVector .vmem S2x500x16 .f32) (harg7 : arg7.IsWhole)
  (arg8 arg9 : DmaSems sig S2)
  (arg10 : Memref sig .scVector .vmem S16 .f32) (harg10 : arg10.IsWhole) (v42 : DmaSems sig S_)

/-- The tile's share of the reciprocal temperature. -/
def invPts (q : PosShare TreeShare) (fI : Buf (Elt F) (arg2.view.loc (thr d i))) : sProp 𝕄 :=
  iprop(arg2.view.loc (thr d i) ↦[arg2.view.set]{q} fI)

/-- The tile's own buffers and semaphores, at rest. -/
def atRest : sProp 𝕄 :=
  iprop(lanes d i arg5 ∗ (inFree d i arg6 arg8 0 ∗ inFree d i arg6 arg8 1) ∗ (outFree d i arg7 arg9 0 ∗ outFree d i arg7 arg9 1)
    ∗ lanes d i arg10 ∗ semVal (thr d i, SemLoc.dma v42.sem) 0)

set_option maxHeartbeats 4000000 in
theorem body (O : CellTallies nD τ sig (HIx 2)) (hO : ∀ g, O g none = 0) (W : Waits sig (HIx 2)) (q : PosShare TreeShare)
    (fI : Buf (Elt F) (arg2.view.loc (thr d i))) (fX : Buf (Elt F) (arg3.view.loc (thr d i))) :
    iprop(levAts (K (F := F)).L (K (F := F)).lev ∗ invPts d i arg2 q fI ∗ bigSep (Finset.range 20) (xChunk d i arg3 fX)
        ∗ bigSep (Finset.range 20) (oTodo d i arg4) ∗ atRest d i arg5 arg6 arg7 arg8 arg9 arg10 v42 ∗ owing d i O W)
      ⊢ wp frame (wpE (defs₀ (F := F)) 𝒱₀ (thr d i) none) Set.univ
          (cc0__softmax_sc i arg2 harg2 arg3 harg3 arg4 harg4 arg5 harg5 arg6 harg6 arg7 harg7 arg8 arg9 arg10 harg10 v42)
          fun _ => iprop(invPts d i arg2 q fI ∗ bigSep (Finset.range 20) (xChunk d i arg3 fX)
            ∗ bigSep (Finset.range 20) (oDone d i arg3 arg4 fX (arg2.view.read (Elt F) fI))
            ∗ atRest d i arg5 arg6 arg7 arg8 arg9 arg10 v42 ∗ owing d i O W) := by
  rw [cc0__softmax_sc_eq_skeleton]
  unfold cc0__softmax_sc_skel
  rw [k0_part2_eq_skeleton]
  unfold k0_part2_skel
  simp only [Prog.lift, Prog.bind_op, Prog.bind_ret, Prog.pure_eq_ret, bind_assoc]
  unfold atRest lanes owing invPts
  iintro ⟨#Hlev, HI, Hxs, Hos, ⟨⟨%f5, H5⟩, ⟨Hin0, Hin1⟩, ⟨Hout0, Hout1⟩, Hl, Hv⟩, ⟨%W₀, %hW₀, HO⟩⟩
  iapply (Transfers.wp_dmaLocal EC 𝒱₀ (thr d i) none (none : HIx 2) arg5.view.dmaCredit rfl
    (View.dmaCredit_pos _ (by decide)) (Finset.Subset.refl _)) $$ [HI H5 Hv]
  · isplitl [HI]; · iexact HI
    isplitl [H5]; · iexact H5
    iexact Hv
  iintro HF
  ihave Hmw := ((K (F := F)).mayWait_none (SemLoc.dma v42.sem) hO) $$ Hlev
  iapply (Transfers.wp_waitLocalO EC 𝒱₀ (thr d i) none (none : HIx 2) rfl) $$ [HF HO Hmw]
  · isplitl [HF]; · iexact HF
    isplitl [HO]; · iexact HO
    iexact Hmw
  iintro ⟨⟨H5, HI⟩, Hv, HO⟩
  iapply (wp_load 𝒱₀ (thr d i) none Set.univ (m := arg5) (View.setOn_subset_set _ _)) $$ H5; iintro H5
  rw [wp_assume_of _ _ _ _ chk1, wp_assume_of _ _ _ _ chk2, wp_assume_of _ _ _ _ chk3, wp_assume_of _ _ _ _ chk4]
  rw [readAt_lanes, View.read_write_univ]
  rw [show (ReadAs.same.apply (arg2.view.read (Elt F) fI) : Vec F S16 .f32) = arg2.view.read (Elt F) fI from rfl]
  generalize arg2.view.read (Elt F) fI = w
  ihave Hx := (Entails.of_eq (SparseCore.bigSep_erase' (Φ := xChunk d i arg3 fX) (show 0 ∈ Finset.range 20 by decide))) $$ Hxs
  icases Hx with ⟨Hx0, Hxs⟩
  iapply (wp_fetch d i arg3 arg6 arg8 fX 0 0 (chunk_of arg3 (off1_eq i) (k0_off1_inb i)) (slot_of arg6 rfl inb_S2x500x16_S1x500x16_0_0_0)
    (cell_zero arg8)) $$ [Hin0 Hx0]
  · isplitl [Hin0]; · iexact Hin0
    iexact Hx0
  iintro HF
  iapply (outer_loop d i arg2 harg2 arg3 harg3 arg4 harg4 arg5 harg5 arg6 harg6 arg7 harg7 arg8 arg9 arg10 harg10 v42 O hO W fX w) $$ [Hl HO HF Hin1 Hxs Hout0 Hout1 Hos]
  · unfold tripInv lanes owing
    rw [show inPend d i arg3 arg6 arg8 fX 0 = inFlight d i arg3 arg6 arg8 fX 0 0 from if_pos (by decide),
      show outPend d i arg3 arg4 arg7 arg9 fX w 0 = outFree d i arg7 arg9 0 from if_neg (by decide),
      show outPend d i arg3 arg4 arg7 arg9 fX w (0 + 1) = outFree d i arg7 arg9 1 from if_neg (by decide)]
    isplitr; · iexact Hlev
    isplitl [Hl]; · iexact Hl
    isplitl [HO]
    · iexists _; isplitr
      rotate_left
      · iexact HO
      · ipureintro
        intro p hp
        rcases Finset.mem_insert.mp hp with rfl | hp
        · exact Or.inr rfl
        · exact hW₀ p hp
    isplitl [HF]; · iexact HF
    isplitl [Hin1]; · iexact Hin1
    isplitl [Hxs]; · iexact Hxs
    isplitl [Hout0]; · iexact Hout0
    isplitl [Hout1]; · iexact Hout1
    isplitr
    · rw [show Finset.range (0 - 2) = ∅ from rfl, BI.bigSep_empty]; iempintro
    · iexact Hos
  iintro %b H
  unfold tripInv
  rw [show inPend d i arg3 arg6 arg8 fX 20 = inFree d i arg6 arg8 0 from if_neg (by decide),
    show outPend d i arg3 arg4 arg7 arg9 fX w 20 = outFlight d i arg3 arg4 arg7 arg9 fX w 0 18 from if_pos (by decide),
    show outPend d i arg3 arg4 arg7 arg9 fX w (20 + 1) = outFlight d i arg3 arg4 arg7 arg9 fX w 1 19 from if_pos (by decide),
    show (Finset.range 20).erase 20 = Finset.range 20 by decide]
  icases H with ⟨-, Hl, HO, Hin0, Hin1, Hxs, HF0, HF1, Hdone, -⟩
  iapply (wp_sent d i arg3 arg4 arg7 arg9 hO fX w 0 18
    (dst := arg4.slice (Rect.unit (s := S320000x16) (k0_off16 i 9000#32) S500x16.size (k0_off16_inb i 0)) (fun _ => rfl)) rfl (cell_zero arg9)) $$ [HF0 HO]
  · isplitr; · iexact Hlev
    isplitl [HF0]; · iexact HF0
    iexact HO
  iintro ⟨Hd18, Hout0, HO⟩
  iapply (wp_sent d i arg3 arg4 arg7 arg9 hO fX w 1 19
    (dst := arg4.slice (Rect.unit (s := S320000x16) (k0_off16 i 9500#32) S500x16.size (k0_off16_inb i 1)) (fun _ => rfl)) rfl (cell_one arg9)) $$ [HF1 HO]
  · isplitr; · iexact Hlev
    isplitl [HF1]; · iexact HF1
    iexact HO
  iintro ⟨Hd19, Hout1, HO⟩
  rw [wp_ret]; imodintro
  unfold lanes owing
  isplitl [HI]; · iexact HI
  isplitl [Hxs]; · iexact Hxs
  isplitl [Hdone Hd18 Hd19]
  · rw [show Finset.range 20 = insert 19 (insert 18 (Finset.range (20 - 2))) by decide, bigSep_more (by decide), bigSep_more (by decide)]
    isplitl [Hd19]; · iexact Hd19
    isplitl [Hd18]; · iexact Hd18
    iexact Hdone
  isplitr [HO]
  · isplitl [H5]; · iexists _; iexact H5
    isplitl [Hin0 Hin1]
    · isplitl [Hin0]; · iexact Hin0
      iexact Hin1
    isplitl [Hout0 Hout1]
    · isplitl [Hout0]; · iexact Hout0
      iexact Hout1
    isplitl [Hl]; · iexact Hl
    iexact Hv
  · iexact HO

end Body

end Cert.Proof.Softmax
-- ==== Proof.Deal.lean ====
/-
  How the arrays are dealt to the tiles: an array of 320000 rows is its 640 chunks, twenty to each of the 32 tiles, and
  a staging buffer is its two slots. The chunks of the result, each holding the softmax rows of the argument's, are the
  array of the softmax rows of the whole argument.
-/
module

public import proofs.«01_k».proof.Proof.Body

@[expose] public section

noncomputable section

namespace Cert.Proof.Softmax

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The tiles' coordinates, their chunks, their shares -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- Every chunk is chunk `k` of one tile. -/
def chunkEquiv : (Fin 2 × Fin 16) × Fin 20 ≃ Fin 640 :=
  Equiv.ofBijective (fun x => chunkNo (coordsV x.1.1 x.1.2) x.2.val)
    ((Fintype.bijective_iff_injective_and_card _).mpr ⟨by
      rintro ⟨⟨c, s⟩, k⟩ ⟨⟨c', s'⟩, k'⟩ h
      have h := congrArg Fin.val h
      simp only [chunkNo_val _ k.isLt, chunkNo_val _ k'.isLt] at h
      have e0 : (coordsV c s 0).val = c.val := rfl
      have e1 : (coordsV c s 1).val = s.val := rfl
      have e2 : (coordsV c' s' 0).val = c'.val := rfl
      have e3 : (coordsV c' s' 1).val = s'.val := rfl
      rw [e0, e1, e2, e3] at h
      have := c.isLt; have := c'.isLt; have := k.isLt; have := k'.isLt
      have hs : s.val = s'.val := by omega
      have hc : c.val = c'.val := by omega
      have hk : k.val = k'.val := by omega
      rw [Fin.ext hs, Fin.ext hc, Fin.ext hk], by simp⟩)

/-- The number of a tile among the 32. -/
def tileEquiv : Fin 2 × Fin 16 ≃ Fin 32 := finProdFinEquiv

/-- The tile's share of the reciprocal temperature. -/
def tok (c : Fin 2) (s : Fin 16) : PosShare TreeShare := Transfers.shareTok fullShare 32 (tileEquiv (c, s))

omit [FloatOps F] in
theorem bigSep_range20 (Φ : ℕ → sProp 𝕄) : bigSep (Finset.range 20) Φ = bigSep Finset.univ fun k : Fin 20 => Φ k.val := by
  rw [show Finset.range 20 = (Finset.univ : Finset (Fin 20)).map Fin.valEmbedding by decide, BI.bigSep_map]; rfl

omit [FloatOps F] in
/-- A family over the chunks, dealt to the tiles. -/
theorem bigSep_dealt (Φ : Fin 640 → sProp 𝕄) :
    bigSep Finset.univ Φ = bigSep Finset.univ fun c : Fin 2 => bigSep Finset.univ fun s : Fin 16 =>
      bigSep (Finset.range 20) fun k => Φ (chunkNo (coordsV c s) k) := by
  rw [BI.bigSep_univ_equiv chunkEquiv, BI.bigSep_univ_prod, BI.bigSep_univ_prod]
  refine bigSep_congr fun c _ => bigSep_congr fun s _ => ?_
  rw [bigSep_range20]; rfl

omit [FloatOps F] in
/-- A family over the 32 shares, dealt to the tiles. -/
theorem bigSep_tiles (Φ : Fin 32 → sProp 𝕄) :
    bigSep Finset.univ Φ = bigSep Finset.univ fun c : Fin 2 => bigSep Finset.univ fun s : Fin 16 => Φ (tileEquiv (c, s)) := by
  rw [BI.bigSep_univ_equiv tileEquiv, BI.bigSep_univ_prod]

/-! ## An array is its chunks -/

theorem chunkRect_disjoint {n n' : Fin 640} (h : n ≠ n') : Disjoint (chunkRect n).set (chunkRect n').set := by
  refine Finset.disjoint_left.mpr fun j hj hj' => h (Fin.ext ?_)
  rw [Rect.mem_set_unit] at hj hj'
  have h0 := hj 0; have h1 := hj' 0
  simp at h0 h1
  omega

theorem chunkRect_cover (j : S320000x16.Idx) : ∃ n : Fin 640, j ∈ (chunkRect n).set := by
  have h0 : (j 0).val < 320000 := (j 0).isLt
  have h1 : (j 1).val < 16 := (j 1).isLt
  refine ⟨⟨(j 0).val / 500, by omega⟩, ?_⟩
  rw [Rect.mem_set_unit]
  intro a
  fin_cases a <;> simp <;> omega

theorem chunk_set (M : Memref sig .scVector .hbm S320000x16 .f32) (n : Fin 640) :
    (chunk M n).view.set = (chunkRect n).set.map M.view.emb := View.set_slice _ _

theorem chunks_cover (M : Memref sig .scVector .hbm S320000x16 .f32) :
    (Finset.univ.biUnion fun n : Fin 640 => (chunk M n).view.set) = M.view.set := by
  rw [Finset.biUnion_congr rfl fun n _ => chunk_set M n]
  unfold View.set
  generalize M.view.emb = e
  apply Finset.ext
  intro x
  rw [Finset.mem_biUnion, Finset.mem_map]
  constructor
  · rintro ⟨n, _, h⟩
    obtain ⟨j, _, hj⟩ := Finset.mem_map.mp h
    exact ⟨j, Finset.mem_univ _, hj⟩
  · rintro ⟨j, _, hj⟩
    obtain ⟨n, hn⟩ := chunkRect_cover j
    exact ⟨n, Finset.mem_univ _, Finset.mem_map.mpr ⟨j, hn, hj⟩⟩

theorem chunks_disjoint (M : Memref sig .scVector .hbm S320000x16 .f32) {n n' : Fin 640} (h : n ≠ n') :
    Disjoint (chunk M n).view.set (chunk M n').view.set := by
  rw [chunk_set, chunk_set, Finset.disjoint_map]; exact chunkRect_disjoint h

omit [FloatOps F] in
/-- The array is its chunks. -/
theorem chunks_split (d : Dev nD) (i : grid0.Coords) (M : Memref sig .scVector .hbm S320000x16 .f32) (f : Buf (Elt F) (M.view.loc (thr d i))) :
    (M.view.loc (thr d i) ↦[M.view.set]{fullShare} f : sProp 𝕄)
      = bigSep Finset.univ fun n : Fin 640 => M.view.loc (thr d i) ↦[(chunk M n).view.set]{fullShare} f := by
  rw [← pointsTo_biUnion Finset.univ (ℓ := M.view.loc (thr d i)) (fun n : Fin 640 => (chunk M n).view.set)
    (fun n _ n' _ h => chunks_disjoint M h), chunks_cover]

/-! ## A chunk done is a chunk of the whole result -/

/-- Contents that read the same through a view agree on its elements. -/
theorem eq_on_set {κ : Kind} {sp : Space} {s : Shape} {e : EltTy} (v : View sig κ sp s e) {f g : v.ty.Contents (Elt F)}
    (h : v.read (Elt F) f = v.read (Elt F) g) : ∀ j ∈ v.set, f j = g j := by
  intro j hj
  obtain ⟨x, -, rfl⟩ := Finset.mem_map.mp hj
  have := congrFun h x
  rw [View.read_apply, View.read_apply] at this
  exact (cast_inj _).mp this

theorem chunkIdx_zero (n : Fin 640) (x : S500x16.Idx) : (chunkIdx n x 0).val = 500 * n.val + (x 0).val := by
  show 500 * n.val + 1 * (x 0).val = _; omega

theorem chunkIdx_one (n : Fin 640) (x : S500x16.Idx) : (chunkIdx n x 1).val = (x 1).val := by
  show 0 + 1 * (x 1).val = _; omega

/-- The softmax rows of a chunk are the chunk of the softmax rows. -/
theorem softArr_chunk (w : Vec F S16 .f32) (X : S320000x16.Idx → Elt F .f32) (n : Fin 640) :
    (fun x : S500x16.Idx => softArr w X (chunkIdx n x)) = softArr w (fun x : S500x16.Idx => X (chunkIdx n x)) := by
  funext x
  have h1 : chunkIdx n x 1 = x 1 := Fin.ext (chunkIdx_one n x)
  have hr : rowOf X (chunkIdx n x 0) = rowOf (fun x : S500x16.Idx => X (chunkIdx n x)) (x 0) := by
    funext l
    show X _ = X _
    congr 1
    funext a
    fin_cases a
    · exact Fin.ext (by
        show (chunkIdx n x 0).val = (chunkIdx n (ix2 (x 0) (l 0)) 0).val
        rw [chunkIdx_zero, chunkIdx_zero])
    · exact Fin.ext (by
        show (l 0).val = (chunkIdx n (ix2 (x 0) (l 0)) 1).val
        rw [chunkIdx_one])
  show rowOut w (rowOf X (chunkIdx n x 0)) (ix1 (chunkIdx n x 1)) = rowOut w (rowOf _ (x 0)) (ix1 (x 1))
  rw [hr, h1]; rfl

/-- A chunk at some contents, from a chunk at given ones, -/
theorem xChunk_todo (d : Dev nD) (i : grid0.Coords) (M : Memref sig .scVector .hbm S320000x16 .f32)
    (f : Buf (Elt F) (M.view.loc (thr d i))) (k : ℕ) : (xChunk d i M f k : sProp 𝕄) ⊢ oTodo d i M k := by
  unfold xChunk oTodo
  iintro H; iexists _; iexact H

/-- and a finished chunk, as one of the array that reads so. -/
theorem oDone_xChunk (d : Dev nD) (i : grid0.Coords) (M3 M4 : Memref sig .scVector .hbm S320000x16 .f32)
    (fX : Buf (Elt F) (M3.view.loc (thr d i))) (w : Vec F S16 .f32) (k : ℕ) (G : Buf (Elt F) (M4.view.loc (thr d i)))
    (hG : (chunk M4 (chunkNo i k)).view.read (Elt F) G = softArr w (xRead d i M3 fX k)) :
    (oDone d i M3 M4 fX w k : sProp 𝕄) ⊢ xChunk d i M4 G k := by
  unfold xChunk oDone
  iintro ⟨%g, %hg, H⟩
  iapply (Entails.of_eq (pointsTo_congr (eq_on_set (chunk M4 (chunkNo i k)).view (hg.trans hG.symm)))) $$ H

/-! ## A staging buffer is its slots -/

theorem slot_set (M : Memref sig .scVector .vmem S2x500x16 .f32) (b : Fin 2) :
    (slot M b).view.set = (slotRect b).set.map M.view.emb :=
  (View.set_reshape _ _).trans (View.set_slice _ _)

theorem slotRect_mem (b : Fin 2) (j : S2x500x16.Idx) : j ∈ (slotRect b).set ↔ (j 0).val = b.val := by
  rw [Rect.mem_set_unit]
  constructor
  · intro h; have := h 0; simp at this; omega
  · intro h a
    have h1 : (j 1).val < 500 := (j 1).isLt
    have h2 : (j 2).val < 16 := (j 2).isLt
    fin_cases a <;> simp <;> omega

theorem slots_disjoint (M : Memref sig .scVector .vmem S2x500x16 .f32) : Disjoint (slot M 0).view.set (slot M 1).view.set := by
  rw [slot_set, slot_set, Finset.disjoint_map]
  refine Finset.disjoint_left.mpr fun j h0 h1 => ?_
  rw [slotRect_mem] at h0 h1
  rw [h0] at h1; exact absurd h1 (by decide)

theorem slots_cover (M : Memref sig .scVector .vmem S2x500x16 .f32) : (slot M 0).view.set ∪ (slot M 1).view.set = M.view.set := by
  rw [slot_set, slot_set, ← Finset.map_union]
  unfold View.set
  generalize M.view.emb = e
  refine congrArg (fun S => S.map e) (Finset.eq_univ_iff_forall.mpr fun j => ?_)
  rw [Finset.mem_union, slotRect_mem, slotRect_mem]
  have h0 : (j 0).val < 2 := (j 0).isLt
  show (j 0).val = 0 ∨ (j 0).val = 1
  omega

/-- A staging buffer falls into its slots -/
theorem slots_split (d : Dev nD) (i : grid0.Coords) (M : Memref sig .scVector .vmem S2x500x16 .f32) (f : Buf (Elt F) (M.view.loc (thr d i))) :
    (M.view.loc (thr d i) ↦[M.view.set]{fullShare} f : sProp 𝕄) ⊢ iprop(inAny d i M 0 ∗ inAny d i M 1) := by
  refine (Entails.of_eq (congrArg (fun S => (M.view.loc (thr d i) ↦[S]{fullShare} f : sProp 𝕄)) (slots_cover M).symm)).trans ?_
  refine (pointsTo_union (slots_disjoint M)).1.trans ?_
  unfold inAny
  iintro ⟨H0, H1⟩
  isplitl [H0]
  · iexists _; iexact H0
  · iexists _; iexact H1

/-- and is put together from them. -/
theorem slots_join (d : Dev nD) (i : grid0.Coords) (M : Memref sig .scVector .vmem S2x500x16 .f32) :
    iprop(inAny d i M 0 ∗ inAny d i M 1) ⊢ (iprop(∃ f : Buf (Elt F) (M.view.loc (thr d i)), M.view.loc (thr d i) ↦[M.view.set]{fullShare} f) : sProp 𝕄) := by
  unfold inAny
  iintro ⟨⟨%f, H0⟩, ⟨%g, H1⟩⟩
  iexists ((slot M 1).view.set.piecewise g f)
  iapply (Entails.of_eq (congrArg (fun S => (M.view.loc (thr d i) ↦[S]{fullShare} ((slot M 1).view.set.piecewise g f) : sProp 𝕄)) (slots_cover M)))
  iapply (pointsTo_join (slots_disjoint M))
  isplitl [H0]
  · iexact H0
  · iexact H1

end Cert.Proof.Softmax
-- ==== Proof.Tile.lean ====
/-
  A tile's task at each of the two calls: from its chunks and its share of the reciprocal temperature, and the vector
  subcore's own buffers and semaphores, to its chunks of the result done. The second call runs the same body as the
  first on buffers of its own.
-/
module

public import proofs.«01_k».proof.Proof.Deal

@[expose] public section

noncomputable section

namespace Cert.Proof.Softmax

open Cert.KernelIdeal Cert.KernelIdeal.Gen
open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

set_option maxRecDepth 65536 in
/-- The two calls run one body. -/
theorem cc1_eq : @cc1__softmax_sc F _ = @cc0__softmax_sc F _ := rfl

/-! ## The subcore's own buffers and semaphores -/

omit [FloatOps F] in
/-- A family with four of its members named. -/
theorem bigSep_four {I : Type} [DecidableEq I] {s : Finset I} {a b c e : I} (ha : a ∈ s) (hb : b ∈ s) (hc : c ∈ s) (he : e ∈ s)
    (hd : [a, b, c, e].Nodup) (Φ : I → sProp 𝕄) : ∃ R : sProp 𝕄, bigSep s Φ = iprop(Φ a ∗ Φ b ∗ Φ c ∗ Φ e ∗ R) := by
  simp only [List.nodup_cons, List.mem_cons, List.not_mem_nil, or_false, not_or] at hd
  obtain ⟨⟨hab, hac, hae⟩, ⟨hbc, hbe⟩, hce, -⟩ := hd
  refine ⟨bigSep ((((s.erase a).erase b).erase c).erase e) Φ, ?_⟩
  rw [SparseCore.bigSep_erase' ha, SparseCore.bigSep_erase' (Finset.mem_erase.mpr ⟨Ne.symm hab, hb⟩),
    SparseCore.bigSep_erase' (Finset.mem_erase.mpr ⟨Ne.symm hbc, Finset.mem_erase.mpr ⟨Ne.symm hac, hc⟩⟩),
    SparseCore.bigSep_erase' (Finset.mem_erase.mpr ⟨Ne.symm hce, Finset.mem_erase.mpr ⟨Ne.symm hbe, Finset.mem_erase.mpr ⟨Ne.symm hae, he⟩⟩⟩)]

omit [FloatOps F] in
/-- A subcore's own semaphores at zero, five of them named. -/
theorem ownSems0_five (d : Dev nD) (i : grid0.Coords) {s0 s1 s2 s3 s4 : SemLoc sig}
    (h0 : s0.isScoped .scVector = true) (h1 : s1.isScoped .scVector = true) (h2 : s2.isScoped .scVector = true)
    (h3 : s3.isScoped .scVector = true) (h4 : s4.isScoped .scVector = true) (hd : [s0, s1, s2, s3, s4].Nodup) :
    ∃ R : sProp 𝕄, (ownSems0 (thr d i) : sProp 𝕄)
      = iprop(semVal (thr d i, s0) 0 ∗ semVal (thr d i, s1) 0 ∗ semVal (thr d i, s2) 0 ∗ semVal (thr d i, s3) 0 ∗ semVal (thr d i, s4) 0 ∗ R) := by
  have hm : ∀ {x : SemLoc sig}, x.isScoped .scVector = true → ((thr d i, x) : GSem nD τ sig) ∈ ownCells (thr d i) :=
    fun hx => mem_ownCells.mpr ⟨rfl, hx⟩
  have hn : ∀ {x y : SemLoc sig}, x ≠ y → ((thr d i, x) : GSem nD τ sig) ≠ (thr d i, y) := fun h e => h (Prod.mk.inj e).2
  rw [List.nodup_cons] at hd
  obtain ⟨hd0, hd⟩ := hd
  unfold SparseCore.Cfg.ownSems0
  rw [SparseCore.bigSep_erase' (hm h0)]
  have ne0 : ∀ {x : SemLoc sig}, x ∈ [s1, s2, s3, s4] → ((thr d i, x) : GSem nD τ sig) ≠ (thr d i, s0) := fun hx e => hd0 ((Prod.mk.inj e).2 ▸ hx)
  obtain ⟨R, hR⟩ := bigSep_four (s := (ownCells (thr d i)).erase (thr d i, s0))
    (Finset.mem_erase.mpr ⟨ne0 (by simp), hm h1⟩) (Finset.mem_erase.mpr ⟨ne0 (by simp), hm h2⟩)
    (Finset.mem_erase.mpr ⟨ne0 (by simp), hm h3⟩) (Finset.mem_erase.mpr ⟨ne0 (by simp), hm h4⟩)
    (by simpa [hn] using hd) (fun g => (semVal g 0 : sProp 𝕄))
  exact ⟨R, by rw [hR]⟩

omit [FloatOps F] in
/-- A subcore's own buffers, four of them named. -/
theorem ownBufs_four (d : Dev nD) (i : grid0.Coords) {b0 b1 b2 b5 : Ref sig .scVector}
    (h0 : ((thr d i).2.devRef b0).owner = .proc (thr d i).2) (h1 : ((thr d i).2.devRef b1).owner = .proc (thr d i).2)
    (h2 : ((thr d i).2.devRef b2).owner = .proc (thr d i).2) (h5 : ((thr d i).2.devRef b5).owner = .proc (thr d i).2)
    (hd : [b0, b1, b2, b5].Nodup) :
    ∃ R : sProp 𝕄, (ownBufs (thr d i) : sProp 𝕄)
      = iprop((∃ f, (thr d i).loc b0 ↦{fullShare} f) ∗ (∃ f, (thr d i).loc b1 ↦{fullShare} f) ∗ (∃ f, (thr d i).loc b2 ↦{fullShare} f)
          ∗ (∃ f, (thr d i).loc b5 ↦{fullShare} f) ∗ R) := by
  unfold SparseCore.Cfg.ownBufs
  exact bigSep_four (SparseCore.Cfg.mem_ownRefs_of_owner h0) (SparseCore.Cfg.mem_ownRefs_of_owner h1)
    (SparseCore.Cfg.mem_ownRefs_of_owner h2) (SparseCore.Cfg.mem_ownRefs_of_owner h5)
    (by simpa [(Proc.devRef_injective (sig := sig) (thr d i).2).eq_iff] using hd) (fun b => iprop(∃ f, (((thr d i).1, b) : Loc nD τ sig) ↦{fullShare} f))

/-- A slot at some contents, whichever way its transfers go. -/
theorem outAny_eq (d : Dev nD) (i : grid0.Coords) (M : Memref sig .scVector .vmem S2x500x16 .f32) (b : Fin 2) :
    (outAny d i M b : sProp 𝕄) = inAny d i M b := rfl

section Rest

variable (d : Dev nD) (i : grid0.Coords)
  (M5 M10 : Memref sig .scVector .vmem S16 .f32) (M6 M7 : Memref sig .scVector .vmem S2x500x16 .f32) (A8 A9 : DmaSems sig S2) (v : DmaSems sig S_)

/-- The four buffers and five semaphores of a call are its scratch at rest, -/
theorem atRest_in :
    iprop((lanes d i M5 ∗ (∃ f : Buf (Elt F) (M6.view.loc (thr d i)), M6.view.loc (thr d i) ↦[M6.view.set]{fullShare} f)
        ∗ (∃ f : Buf (Elt F) (M7.view.loc (thr d i)), M7.view.loc (thr d i) ↦[M7.view.set]{fullShare} f) ∗ lanes d i M10)
      ∗ (semVal (thr d i, SemLoc.dma (cell A8 0)) 0 ∗ semVal (thr d i, SemLoc.dma (cell A8 1)) 0
        ∗ semVal (thr d i, SemLoc.dma (cell A9 0)) 0 ∗ semVal (thr d i, SemLoc.dma (cell A9 1)) 0 ∗ semVal (thr d i, SemLoc.dma v.sem) 0))
      ⊢ (atRest d i M5 M6 M7 A8 A9 M10 v : sProp 𝕄) := by
  iintro ⟨⟨H5, ⟨%f6, H6⟩, ⟨%f7, H7⟩, H10⟩, ⟨Ha, Hb, Hc, Hd, Hv⟩⟩
  ihave H6' := (slots_split d i M6 f6) $$ H6
  ihave H7' := (slots_split d i M7 f7) $$ H7
  icases H6' with ⟨H60, H61⟩
  icases H7' with ⟨H70, H71⟩
  unfold atRest inFree outFree
  rw [outAny_eq, outAny_eq]
  isplitl [H5]; · iexact H5
  isplitl [Ha Hb H60 H61]
  · isplitl [Ha H60]
    · isplitl [Ha]; · iexact Ha
      iexact H60
    · isplitl [Hb]; · iexact Hb
      iexact H61
  isplitl [Hc Hd H70 H71]
  · isplitl [Hc H70]
    · isplitl [Hc]; · iexact Hc
      iexact H70
    · isplitl [Hd]; · iexact Hd
      iexact H71
  isplitl [H10]; · iexact H10
  iexact Hv

/-- and the scratch at rest is them. -/
theorem atRest_out :
    (atRest d i M5 M6 M7 A8 A9 M10 v : sProp 𝕄)
      ⊢ iprop((lanes d i M5 ∗ (∃ f : Buf (Elt F) (M6.view.loc (thr d i)), M6.view.loc (thr d i) ↦[M6.view.set]{fullShare} f)
        ∗ (∃ f : Buf (Elt F) (M7.view.loc (thr d i)), M7.view.loc (thr d i) ↦[M7.view.set]{fullShare} f) ∗ lanes d i M10)
      ∗ (semVal (thr d i, SemLoc.dma (cell A8 0)) 0 ∗ semVal (thr d i, SemLoc.dma (cell A8 1)) 0
        ∗ semVal (thr d i, SemLoc.dma (cell A9 0)) 0 ∗ semVal (thr d i, SemLoc.dma (cell A9 1)) 0 ∗ semVal (thr d i, SemLoc.dma v.sem) 0)) := by
  unfold atRest inFree outFree
  rw [outAny_eq, outAny_eq]
  iintro ⟨H5, ⟨⟨Ha, H60⟩, ⟨Hb, H61⟩⟩, ⟨⟨Hc, H70⟩, ⟨Hd, H71⟩⟩, H10, Hv⟩
  ihave H6 := (slots_join d i M6) $$ [H60 H61]
  · isplitl [H60]; · iexact H60
    iexact H61
  ihave H7 := (slots_join d i M7) $$ [H70 H71]
  · isplitl [H70]; · iexact H70
    iexact H71
  isplitl [H5 H6 H7 H10]
  · isplitl [H5]; · iexact H5
    isplitl [H6]; · iexact H6
    isplitl [H7]; · iexact H7
    iexact H10
  isplitl [Ha]; · iexact Ha
  isplitl [Hb]; · iexact Hb
  isplitl [Hc]; · iexact Hc
  isplitl [Hd]; · iexact Hd
  iexact Hv

/-- The scratch among a subcore's own buffers and semaphores. -/
theorem scoped_rest {Rb Rs : sProp 𝕄}
    (hb : (ownBufs (thr d i) : sProp 𝕄) = iprop(lanes d i M5 ∗ (∃ f : Buf (Elt F) (M6.view.loc (thr d i)), M6.view.loc (thr d i) ↦[M6.view.set]{fullShare} f)
        ∗ (∃ f : Buf (Elt F) (M7.view.loc (thr d i)), M7.view.loc (thr d i) ↦[M7.view.set]{fullShare} f) ∗ lanes d i M10 ∗ Rb))
    (hs : (ownSems0 (thr d i) : sProp 𝕄) = iprop(semVal (thr d i, SemLoc.dma (cell A8 0)) 0 ∗ semVal (thr d i, SemLoc.dma (cell A8 1)) 0
        ∗ semVal (thr d i, SemLoc.dma (cell A9 0)) 0 ∗ semVal (thr d i, SemLoc.dma (cell A9 1)) 0 ∗ semVal (thr d i, SemLoc.dma v.sem) 0 ∗ Rs)) :
    (iprop(scopedBufs (thr d i) ∗ scopedSems0 (thr d i)) : sProp 𝕄) ⊣⊢ iprop(atRest d i M5 M6 M7 A8 A9 M10 v ∗ Rb ∗ Rs) := by
  rw [(K (F := F)).scopedBufs_V facts d (cV i) (jV i), SparseCore.Cfg.scopedSems0_V (Val := Elt F) d (cV i) (jV i), hb, hs]
  constructor
  · iintro ⟨⟨H0, H1, H2, H5, HRb⟩, ⟨Ha, Hb, Hc, Hd, He, HRs⟩⟩
    isplitr [HRb HRs]
    · iapply (atRest_in d i _ _ _ _ _ _ _)
      isplitl [H0 H1 H2 H5]
      · isplitl [H0]; · iexact H0
        isplitl [H1]; · iexact H1
        isplitl [H2]; · iexact H2
        iexact H5
      isplitl [Ha]; · iexact Ha
      isplitl [Hb]; · iexact Hb
      isplitl [Hc]; · iexact Hc
      isplitl [Hd]; · iexact Hd
      iexact He
    · isplitl [HRb]; · iexact HRb
      iexact HRs
  · iintro ⟨Hr, ⟨HRb, HRs⟩⟩
    ihave H := (atRest_out d i _ _ _ _ _ _ _) $$ Hr
    icases H with ⟨⟨H0, H1, H2, H5⟩, ⟨Ha, Hb, Hc, Hd, He⟩⟩
    isplitl [H0 H1 H2 H5 HRb]
    · isplitl [H0]; · iexact H0
      isplitl [H1]; · iexact H1
      isplitl [H2]; · iexact H2
      isplitl [H5]; · iexact H5
      iexact HRb
    isplitl [Ha]; · iexact Ha
    isplitl [Hb]; · iexact Hb
    isplitl [Hc]; · iexact Hc
    isplitl [Hd]; · iexact Hd
    isplitl [He]; · iexact He
    iexact HRs

end Rest

omit [FloatOps F] in
/-- A whole buffer's elements are all of them. -/
theorem whole_pts (d : Dev nD) (i : grid0.Coords) (b : Ref sig .scVector) :
    (iprop(∃ f : Buf (Elt F) ((thr d i).loc b), (thr d i).loc b ↦{fullShare} f) : sProp 𝕄)
      = iprop(∃ f : Buf (Elt F) ((Memref.whole b).view.loc (thr d i)), (Memref.whole b).view.loc (thr d i) ↦[(Memref.whole b).view.set]{fullShare} f) := by
  simp only [Memref.view_whole, View.set_whole]

abbrev rest0 (d : Dev nD) (i : grid0.Coords) : sProp 𝕄 :=
  atRest d i (Memref.whole cc0_scratch0) (Memref.whole cc0_scratch1) (Memref.whole cc0_scratch2) cc0_scratch3 cc0_scratch4 (Memref.whole cc0_scratch5) cc0_scoped0

abbrev rest1 (d : Dev nD) (i : grid0.Coords) : sProp 𝕄 :=
  atRest d i (Memref.whole cc1_scratch0) (Memref.whole cc1_scratch1) (Memref.whole cc1_scratch2) cc1_scratch3 cc1_scratch4 (Memref.whole cc1_scratch5) cc1_scoped0

/-- The first call's scratch among a subcore's own. -/
theorem scoped_rest0 (d : Dev nD) (i : grid0.Coords) :
    ∃ R : sProp 𝕄, (iprop(scopedBufs (thr d i) ∗ scopedSems0 (thr d i)) : sProp 𝕄) ⊣⊢ iprop(rest0 d i ∗ R) := by
  obtain ⟨Rb, hb⟩ := ownBufs_four (F := F) d i (b0 := cc0_scratch0) (b1 := cc0_scratch1) (b2 := cc0_scratch2) (b5 := cc0_scratch5) rfl rfl rfl rfl (by decide)
  obtain ⟨Rs, hs⟩ := ownSems0_five (F := F) d i (s0 := SemLoc.dma (cell cc0_scratch3 0)) (s1 := SemLoc.dma (cell cc0_scratch3 1))
    (s2 := SemLoc.dma (cell cc0_scratch4 0)) (s3 := SemLoc.dma (cell cc0_scratch4 1)) (s4 := SemLoc.dma cc0_scoped0.sem)
    (by decide) (by decide) (by decide) (by decide) (by decide) (by decide)
  rw [whole_pts, whole_pts, whole_pts, whole_pts] at hb
  exact ⟨iprop(Rb ∗ Rs), scoped_rest d i _ _ _ _ _ _ _ hb hs⟩

/-- The second call's scratch among a subcore's own. -/
theorem scoped_rest1 (d : Dev nD) (i : grid0.Coords) :
    ∃ R : sProp 𝕄, (iprop(scopedBufs (thr d i) ∗ scopedSems0 (thr d i)) : sProp 𝕄) ⊣⊢ iprop(rest1 d i ∗ R) := by
  obtain ⟨Rb, hb⟩ := ownBufs_four (F := F) d i (b0 := cc1_scratch0) (b1 := cc1_scratch1) (b2 := cc1_scratch2) (b5 := cc1_scratch5) rfl rfl rfl rfl (by decide)
  obtain ⟨Rs, hs⟩ := ownSems0_five (F := F) d i (s0 := SemLoc.dma (cell cc1_scratch3 0)) (s1 := SemLoc.dma (cell cc1_scratch3 1))
    (s2 := SemLoc.dma (cell cc1_scratch4 0)) (s3 := SemLoc.dma (cell cc1_scratch4 1)) (s4 := SemLoc.dma cc1_scoped0.sem)
    (by decide) (by decide) (by decide) (by decide) (by decide) (by decide)
  rw [whole_pts, whole_pts, whole_pts, whole_pts] at hb
  exact ⟨iprop(Rb ∗ Rs), scoped_rest d i _ _ _ _ _ _ _ hb hs⟩

/-! ## The task -/

section Task

variable (d : Dev nD) (i : grid0.Coords) (M2 : Memref sig .scVector .hbm S16 .f32) (M3 M4 : Memref sig .scVector .hbm S320000x16 .f32)
  (q : PosShare TreeShare) (fI : Buf (Elt F) (M2.view.loc (thr d i))) (fX : Buf (Elt F) (M3.view.loc (thr d i)))

/-- What a task is given: its share of the reciprocal temperature, its chunks of the argument, its chunks of the result; -/
def tileIn : sProp 𝕄 :=
  iprop(invPts d i M2 q fI ∗ bigSep (Finset.range 20) (xChunk d i M3 fX) ∗ bigSep (Finset.range 20) (oTodo d i M4))

/-- what it gives back: those, the result's done. -/
def tileOut : sProp 𝕄 :=
  iprop(invPts d i M2 q fI ∗ bigSep (Finset.range 20) (xChunk d i M3 fX) ∗ bigSep (Finset.range 20) (oDone d i M3 M4 fX (M2.view.read (Elt F) fI)))

end Task

omit [FloatOps F] in
/-- The subcore's own, put back from a call's scratch. -/
theorem give_back {A B C E R S S' : sProp 𝕄} (h : iprop(E ∗ R) ⊢ iprop(S ∗ S')) {O : sProp 𝕄} :
    iprop((A ∗ B ∗ C ∗ E ∗ O) ∗ R) ⊢ iprop((A ∗ B ∗ C) ∗ S ∗ S' ∗ O) := by
  iintro ⟨⟨HA, HB, HC, HE, HO⟩, HR⟩
  ihave Hs := h $$ [HE HR]
  · isplitl [HE]; · iexact HE
    iexact HR
  icases Hs with ⟨HS, HS'⟩
  isplitl [HA HB HC]
  · isplitl [HA]; · iexact HA
    isplitl [HB]; · iexact HB
    iexact HC
  isplitl [HS]; · iexact HS
  isplitl [HS']; · iexact HS'
  iexact HO

/-- The task of a tile at the first call. -/
theorem task0 (d : Dev nD) (i : grid0.Coords) (O : CellTallies nD τ sig (HIx 2)) (hO : ∀ g, O g none = 0) (W : Waits sig (HIx 2))
    (q : PosShare TreeShare) (fI : Buf (Elt F) ((Memref.whole main_v3_scv).view.loc (thr d i)))
    (fX : Buf (Elt F) ((Memref.whole main_arg0_scv).view.loc (thr d i))) :
    iprop(levAts (K (F := F)).L (K (F := F)).lev ∗ emp
        ∗ tileIn d i (Memref.whole main_v3_scv) (Memref.whole main_arg0_scv) (Memref.whole main_v4_scv) q fI fX
        ∗ scopedBufs (thr d i) ∗ scopedSems0 (thr d i) ∗ owes (thr d i) O W)
      ⊢ wp frame (wpE (defs₀ (F := F)) 𝒱₀ (thr d i) none) Set.univ
          (cc0__softmax_sc i (Memref.whole main_v3_scv) (Memref.isWhole_whole _) (Memref.whole main_arg0_scv) (Memref.isWhole_whole _)
            (Memref.whole main_v4_scv) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 (Memref.whole cc0_scratch5) (Memref.isWhole_whole _) cc0_scoped0)
          fun _ => iprop(tileOut d i (Memref.whole main_v3_scv) (Memref.whole main_arg0_scv) (Memref.whole main_v4_scv) q fI fX
            ∗ scopedBufs (thr d i) ∗ scopedSems0 (thr d i) ∗ owing d i O W) := by
  obtain ⟨R, hR⟩ := scoped_rest0 (F := F) d i
  unfold tileIn tileOut
  iintro ⟨#Hlev, -, ⟨HI, Hx, Ho⟩, Hsb, Hss, HO⟩
  ihave Hs := hR.1 $$ [Hsb Hss]
  · isplitl [Hsb]; · iexact Hsb
    iexact Hss
  icases Hs with ⟨Hrest, HR⟩
  iapply (wp_mono frame _ _ (fun _ => give_back hR.2))
  iapply (wp_frame_r frame _ _)
  isplitr [HR]
  · iapply (body d i _ _ _ _ _ _ _ _ _ _ _ _ _ _ _ _ _ O hO W q fI fX)
    isplitr; · iexact Hlev
    isplitl [HI]; · iexact HI
    isplitl [Hx]; · iexact Hx
    isplitl [Ho]; · iexact Ho
    isplitl [Hrest]; · iexact Hrest
    unfold owing
    iexists W; isplitr
    · ipureintro; exact fun p hp => Or.inl hp
    · iexact HO
  · iexact HR

/-- The task of a tile at the second call. -/
theorem task1 (d : Dev nD) (i : grid0.Coords) (O : CellTallies nD τ sig (HIx 2)) (hO : ∀ g, O g none = 0) (W : Waits sig (HIx 2))
    (q : PosShare TreeShare) (fI : Buf (Elt F) ((Memref.whole main_v3_scv).view.loc (thr d i)))
    (fX : Buf (Elt F) ((Memref.whole main_arg1_scv).view.loc (thr d i))) :
    iprop(levAts (K (F := F)).L (K (F := F)).lev ∗ emp
        ∗ tileIn d i (Memref.whole main_v3_scv) (Memref.whole main_arg1_scv) (Memref.whole main_v5_scv) q fI fX
        ∗ scopedBufs (thr d i) ∗ scopedSems0 (thr d i) ∗ owes (thr d i) O W)
      ⊢ wp frame (wpE (defs₀ (F := F)) 𝒱₀ (thr d i) none) Set.univ
          (cc1__softmax_sc i (Memref.whole main_v3_scv) (Memref.isWhole_whole _) (Memref.whole main_arg1_scv) (Memref.isWhole_whole _)
            (Memref.whole main_v5_scv) (Memref.isWhole_whole _) (Memref.whole cc1_scratch0) (Memref.isWhole_whole _) (Memref.whole cc1_scratch1) (Memref.isWhole_whole _)
            (Memref.whole cc1_scratch2) (Memref.isWhole_whole _) cc1_scratch3 cc1_scratch4 (Memref.whole cc1_scratch5) (Memref.isWhole_whole _) cc1_scoped0)
          fun _ => iprop(tileOut d i (Memref.whole main_v3_scv) (Memref.whole main_arg1_scv) (Memref.whole main_v5_scv) q fI fX
            ∗ scopedBufs (thr d i) ∗ scopedSems0 (thr d i) ∗ owing d i O W) := by
  obtain ⟨R, hR⟩ := scoped_rest1 (F := F) d i
  rw [cc1_eq]
  unfold tileIn tileOut
  iintro ⟨#Hlev, -, ⟨HI, Hx, Ho⟩, Hsb, Hss, HO⟩
  ihave Hs := hR.1 $$ [Hsb Hss]
  · isplitl [Hsb]; · iexact Hsb
    iexact Hss
  icases Hs with ⟨Hrest, HR⟩
  iapply (wp_mono frame _ _ (fun _ => give_back hR.2))
  iapply (wp_frame_r frame _ _)
  isplitr [HR]
  · iapply (body d i _ _ _ _ _ _ _ _ _ _ _ _ _ _ _ _ _ O hO W q fI fX)
    isplitr; · iexact Hlev
    isplitl [HI]; · iexact HI
    isplitl [Hx]; · iexact Hx
    isplitl [Ho]; · iexact Ho
    isplitl [Hrest]; · iexact Hrest
    unfold owing
    iexists W; isplitr
    · ipureintro; exact fun p hp => Or.inl hp
    · iexact HO
  · iexact HR

end Cert.Proof.Softmax
-- ==== Proof.Launch.lean ====
/-
  The launch: what the TensorCore hands the tiles at each of the two calls and takes back, @main's host operations (the
  reciprocal temperature in sixteen lanes) around them, and the program's run — from any memory it terminates with the
  two results at the softmax rows of the two arguments, the arguments unchanged and every semaphore counter at zero.
-/
module

public import proofs.«01_k».proof.Proof.Tile

@[expose] public section

noncomputable section

namespace Cert.Proof.Softmax

open Cert.KernelIdeal Cert.KernelIdeal.Gen
open Idealize.ShloMosaic Idealize.ShloMosaic.ValueIdx
open Idealize.ShloMosaic.SparseCore (S V T)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

/-! ## What passes between the TensorCore and the tiles -/

abbrev aLoc (d : Dev nD) : Loc nD τ sig := (SparseCore.T d).loc main_arg0
abbrev bLoc (d : Dev nD) : Loc nD τ sig := (SparseCore.T d).loc main_arg1
abbrev tLoc (d : Dev nD) : Loc nD τ sig := (SparseCore.T d).loc main_arg2
abbrev iLoc (d : Dev nD) : Loc nD τ sig := (SparseCore.T d).loc main_v3
abbrev pLoc (d : Dev nD) : Loc nD τ sig := (SparseCore.T d).loc main_v4
abbrev qLoc (d : Dev nD) : Loc nD τ sig := (SparseCore.T d).loc main_v5

/-- The reciprocal of the temperature, in sixteen lanes. -/
def recip (t : (⟨S_, .i32⟩ : BufTy).Contents (Elt F)) : (⟨S16, .f32⟩ : BufTy).Contents (Elt F) :=
  Host.divf (φ := .f32) (broadcastInDim S16 ![] bcast_S_S16 (constant S_ .f32 0x3F800000#32))
    (broadcastInDim S16 ![] bcast_S_S16 (sitofp .f32 t))

/-- A tile's part at a call, before it, -/
def partIn (q : Fin 2) (d : Dev nD) (c : Fin 2) (s : Fin 16) : sProp 𝕄 := match q with
  | 0 => tileIn d (coordsV c s) (Memref.whole main_v3_scv) (Memref.whole main_arg0_scv) (Memref.whole main_v4_scv) (tok c s) (recip (m (tLoc d))) (m (aLoc d))
  | 1 => tileIn d (coordsV c s) (Memref.whole main_v3_scv) (Memref.whole main_arg1_scv) (Memref.whole main_v5_scv) (tok c s) (recip (m (tLoc d))) (m (bLoc d))

/-- and after. -/
def partOut (q : Fin 2) (d : Dev nD) (c : Fin 2) (s : Fin 16) : sProp 𝕄 := match q with
  | 0 => tileOut d (coordsV c s) (Memref.whole main_v3_scv) (Memref.whole main_arg0_scv) (Memref.whole main_v4_scv) (tok c s) (recip (m (tLoc d))) (m (aLoc d))
  | 1 => tileOut d (coordsV c s) (Memref.whole main_v3_scv) (Memref.whole main_arg1_scv) (Memref.whole main_v5_scv) (tok c s) (recip (m (tLoc d))) (m (bLoc d))

theorem nCore_eq (q : Fin 2) : (K (F := F)).nCore q = 2 := match q with | 0 => rfl | 1 => rfl
theorem nSub_eq (q : Fin 2) : (K (F := F)).nSub q = 16 := match q with | 0 => rfl | 1 => rfl

def P : (K (F := F)).Pay (nD := nD) (Val := Elt F) (Name := ℕ) (U := UU) where
  st := fun q d c => bigSep Finset.univ fun i : Fin ((K (F := F)).nSub q) => partIn m q d (Fin.cast (nCore_eq q) c) (Fin.cast (nSub_eq q) i)
  dn := fun q d c => bigSep Finset.univ fun i : Fin ((K (F := F)).nSub q) => partOut m q d (Fin.cast (nCore_eq q) c) (Fin.cast (nSub_eq q) i)
  go := fun q d c i => partIn m q d (Fin.cast (nCore_eq q) c) (Fin.cast (nSub_eq q) i)
  td := fun q d c i => partOut m q d (Fin.cast (nCore_eq q) c) (Fin.cast (nSub_eq q) i)
  x := fun _ _ => iprop(emp)

section Storable

variable (d : Dev nD) (i : grid0.Coords) (M2 : Memref sig .scVector .hbm S16 .f32) (M3 M4 : Memref sig .scVector .hbm S320000x16 .f32)
  (q : PosShare TreeShare) (fI : Buf (Elt F) (M2.view.loc (thr d i))) (fX : Buf (Elt F) (M3.view.loc (thr d i)))

instance xChunk_storable (k : ℕ) : BI.Storable (upEmb : UEmb _ 𝕄) (xChunk d i M3 fX k) := by unfold xChunk; infer_instance
instance oTodo_storable (k : ℕ) : BI.Storable (upEmb : UEmb _ 𝕄) (oTodo (F := F) d i M4 k) := by unfold oTodo; infer_instance
instance oDone_storable (w : Vec F S16 .f32) (k : ℕ) : BI.Storable (upEmb : UEmb _ 𝕄) (oDone d i M3 M4 fX w k) := by unfold oDone; infer_instance
instance tileIn_storable : BI.Storable (upEmb : UEmb _ 𝕄) (tileIn d i M2 M3 M4 q fI fX) := by unfold tileIn invPts; infer_instance
instance tileOut_storable : BI.Storable (upEmb : UEmb _ 𝕄) (tileOut d i M2 M3 M4 q fI fX) := by unfold tileOut invPts; infer_instance

end Storable

instance partIn_storable (q : Fin 2) (d : Dev nD) (c : Fin 2) (s : Fin 16) : BI.Storable (upEmb : UEmb _ 𝕄) (partIn m q d c s) :=
  match q with
  | 0 => by unfold partIn; infer_instance
  | 1 => by unfold partIn; infer_instance
instance partOut_storable (q : Fin 2) (d : Dev nD) (c : Fin 2) (s : Fin 16) : BI.Storable (upEmb : UEmb _ 𝕄) (partOut m q d c s) :=
  match q with
  | 0 => by unfold partOut; infer_instance
  | 1 => by unfold partOut; infer_instance

instance P_storable : (P (F := F) m).IsStorable where
  st q d c := by unfold P; infer_instance
  dn q d c := by unfold P; infer_instance
  go q d c i := by unfold P; infer_instance
  td q d c i := by unfold P; infer_instance

/-! ## The tiles' obligations -/

theorem defs₀_zero (c : Fin τ.nSC) (s : Fin τ.nSub) :
    defs₀ (F := F) (.scVector c s) 0 ()
      = SparseCore.onTile hcore0 hsub0 (fun c s => cc0__softmax_sc (coordsV c s) (Memref.whole main_v3_scv) (Memref.isWhole_whole _)
          (Memref.whole main_arg0_scv) (Memref.isWhole_whole _) (Memref.whole main_v4_scv) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 (Memref.whole cc0_scratch5) (Memref.isWhole_whole _) cc0_scoped0) ⟨⟩ c s := rfl

theorem defs₀_one (c : Fin τ.nSC) (s : Fin τ.nSub) :
    defs₀ (F := F) (.scVector c s) 1 ()
      = SparseCore.onTile hcore0 hsub0 (fun c s => cc1__softmax_sc (coordsV c s) (Memref.whole main_v3_scv) (Memref.isWhole_whole _)
          (Memref.whole main_arg1_scv) (Memref.isWhole_whole _) (Memref.whole main_v5_scv) (Memref.isWhole_whole _)
          (Memref.whole cc1_scratch0) (Memref.isWhole_whole _) (Memref.whole cc1_scratch1) (Memref.isWhole_whole _)
          (Memref.whole cc1_scratch2) (Memref.isWhole_whole _) cc1_scratch3 cc1_scratch4 (Memref.whole cc1_scratch5) (Memref.isWhole_whole _) cc1_scoped0) ⟨⟩ c s := rfl

omit [FloatOps F] in
theorem obl_post {d : Dev nD} {i : grid0.Coords} {A B C : sProp 𝕄} {O : CellTallies nD τ sig (HIx 2)} {W : Waits sig (HIx 2)} {q : Fin 2} :
    iprop(A ∗ B ∗ C ∗ owing d i O W)
      ⊢ iprop(A ∗ B ∗ C ∗ ∃ W', ⌜∀ p ∈ W', p ∈ W ∨ p.2 = none ∨ p.2 = some q⌝ ∗ owes (thr d i) O W') := by
  unfold owing
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_zero]; simp only [SparseCore.onTile, hc, and_self, ↓reduceDIte]
  exact (task0 d (coordsV ⟨_, hc.1⟩ ⟨_, hc.2⟩) O hO W _ _ _).trans (wp_mono frame _ _ fun _ => obl_post)

theorem tileObl1 : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid0.bound 0 ∧ ((K (F := F)).sub 1 i).val < grid0.bound 1 := ⟨c.isLt, i.isLt⟩
  rw [defs₀_one]; simp only [SparseCore.onTile, hc, and_self, ↓reduceDIte]
  exact (task1 d (coordsV ⟨_, hc.1⟩ ⟨_, hc.2⟩) O hO W _ _ _).trans (wp_mono frame _ _ fun _ => obl_post)

/-- A sequencer's part is its tiles' parts. -/
theorem vecSplit (q : Fin 2) : (K (F := F)).VecSplit' (P m) q := by
  intro d c
  show iprop(bigSep Finset.univ fun i => (P m).go q d c i) ⊢ |={Set.univ}=> iprop((bigSep Finset.univ fun i => (P m).go q d c i)
    ∗ ((bigSep Finset.univ fun i => (P m).td q d c i) -∗ bigSep Finset.univ fun i => (P m).td q d c i))
  iintro H; imodintro
  isplitl [H]; · iexact H
  iintro H; iexact H

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

end Cert.Proof.Softmax
-- ==== Proof.Main.lean ====
/-
  @main on the TensorCore: the reciprocal temperature computed, its 32 read shares and the chunks of the argument and of
  the result dealt to the tiles for each call, the result put together from the chunks that come back, and the whole
  program's run.
-/
module

public import proofs.«01_k».proof.Proof.Launch

@[expose] public section

noncomputable section

namespace Cert.Proof.Softmax

open Cert.KernelIdeal Cert.KernelIdeal.Gen
open Idealize.ShloMosaic Idealize.ShloMosaic.ValueIdx
open Idealize.ShloMosaic.SparseCore (S V T)
open Idealize.ShloMosaic.SparseCore.Cfg (HIx)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

/-! ## Dealing the arrays -/

/-- A family over the tiles. -/
abbrev overTiles (Φ : Fin 2 → Fin 16 → sProp 𝕄) : sProp 𝕄 := bigSep Finset.univ fun c : Fin 2 => bigSep Finset.univ fun s : Fin 16 => Φ c s

omit [FloatOps F] in
theorem overTiles_sep (Φ Ψ : Fin 2 → Fin 16 → sProp 𝕄) :
    overTiles (fun c s => iprop(Φ c s ∗ Ψ c s)) = iprop(overTiles Φ ∗ overTiles Ψ) := by
  unfold overTiles
  rw [bigSep_congr fun c _ => bigSep_sep' _ _ _, bigSep_sep']

omit [FloatOps F] in
theorem set_whole_view (b : Ref sig .scVector) : (Memref.whole b).view.set = Finset.univ := by
  rw [Memref.view_whole, View.set_whole]

/-- Each array is the chunks its tiles take. -/
theorem a_dealt (d : Dev nD) (f : Buf (Elt F) (aLoc d)) :
    (aLoc d ↦{fullShare} f : sProp 𝕄) = overTiles fun c s => bigSep (Finset.range 20) (xChunk d (coordsV c s) (Memref.whole main_arg0_scv) f) := by
  have h := chunks_split d (coordsV (0 : Fin 2) (0 : Fin 16)) (Memref.whole main_arg0_scv) f
  rw [bigSep_dealt] at h
  exact (congrArg (fun S => (aLoc d ↦[S]{fullShare} f : sProp 𝕄)) (set_whole_view main_arg0_scv).symm).trans h

theorem b_dealt (d : Dev nD) (f : Buf (Elt F) (bLoc d)) :
    (bLoc d ↦{fullShare} f : sProp 𝕄) = overTiles fun c s => bigSep (Finset.range 20) (xChunk d (coordsV c s) (Memref.whole main_arg1_scv) f) := by
  have h := chunks_split d (coordsV (0 : Fin 2) (0 : Fin 16)) (Memref.whole main_arg1_scv) f
  rw [bigSep_dealt] at h
  exact (congrArg (fun S => (bLoc d ↦[S]{fullShare} f : sProp 𝕄)) (set_whole_view main_arg1_scv).symm).trans h

theorem p_dealt (d : Dev nD) (f : Buf (Elt F) (pLoc d)) :
    (pLoc d ↦{fullShare} f : sProp 𝕄) = overTiles fun c s => bigSep (Finset.range 20) (xChunk d (coordsV c s) (Memref.whole main_v4_scv) f) := by
  have h := chunks_split d (coordsV (0 : Fin 2) (0 : Fin 16)) (Memref.whole main_v4_scv) f
  rw [bigSep_dealt] at h
  exact (congrArg (fun S => (pLoc d ↦[S]{fullShare} f : sProp 𝕄)) (set_whole_view main_v4_scv).symm).trans h

theorem q_dealt (d : Dev nD) (f : Buf (Elt F) (qLoc d)) :
    (qLoc d ↦{fullShare} f : sProp 𝕄) = overTiles fun c s => bigSep (Finset.range 20) (xChunk d (coordsV c s) (Memref.whole main_v5_scv) f) := by
  have h := chunks_split d (coordsV (0 : Fin 2) (0 : Fin 16)) (Memref.whole main_v5_scv) f
  rw [bigSep_dealt] at h
  exact (congrArg (fun S => (qLoc d ↦[S]{fullShare} f : sProp 𝕄)) (set_whole_view main_v5_scv).symm).trans h

/-- The reciprocal temperature is a share the TensorCore keeps and one share for each tile. -/
theorem i_dealt (d : Dev nD) (f : Buf (Elt F) (iLoc d)) :
    (iLoc d ↦{fullShare} f : sProp 𝕄) ⊣⊢ iprop((iLoc d ↦{Transfers.shareDrop fullShare 32} f)
      ∗ overTiles fun c s => invPts d (coordsV c s) (Memref.whole main_v3_scv) (tok c s) f) := by
  have h := Transfers.pointsTo_toks (nD := nD) (τ := τ) (sig := sig) (Ix := HIx 2) (Val := Elt F) (Name := ℕ) (U := UU) (Lvl := ℕ)
    (ℓ := iLoc d) (S := Finset.univ) (f := f) fullShare 32
  rw [bigSep_tiles] at h
  unfold invPts
  simp only [Memref.view_whole, View.set_whole]
  exact h

/-- The chunks of a result, at some contents or other. -/
theorem todo_of (d : Dev nD) (M : Memref sig .scVector .hbm S320000x16 .f32) (f : ∀ i : grid0.Coords, Buf (Elt F) (M.view.loc (thr d i))) :
    (overTiles fun c s => bigSep (Finset.range 20) (xChunk d (coordsV c s) M (f (coordsV c s))) : sProp 𝕄)
      ⊢ overTiles fun c s => bigSep (Finset.range 20) (oTodo d (coordsV c s) M) :=
  bigSep_mono fun _ _ => bigSep_mono fun _ _ => bigSep_mono fun _ _ => xChunk_todo d _ M _ _

/-- The chunks of a result done are the chunks of the softmax rows of the whole argument. -/
theorem of_done (d : Dev nD) (M3 M4 : Memref sig .scVector .hbm S320000x16 .f32) (fX : ∀ i : grid0.Coords, Buf (Elt F) (M3.view.loc (thr d i)))
    (w : Vec F S16 .f32) (G : ∀ i : grid0.Coords, Buf (Elt F) (M4.view.loc (thr d i)))
    (hG : ∀ i k, (chunk M4 (chunkNo i k)).view.read (Elt F) (G i) = softArr w (xRead d i M3 (fX i) k)) :
    (overTiles fun c s => bigSep (Finset.range 20) (oDone d (coordsV c s) M3 M4 (fX (coordsV c s)) w) : sProp 𝕄)
      ⊢ overTiles fun c s => bigSep (Finset.range 20) (xChunk d (coordsV c s) M4 (G (coordsV c s))) :=
  bigSep_mono fun _ _ => bigSep_mono fun _ _ => bigSep_mono fun _ _ => oDone_xChunk d _ M3 M4 _ w _ _ (hG _ _)

/-! ## The two calls, as the TensorCore sees them -/

omit [FloatOps F] in
/-- Dealing three arrays to the tiles, a rest of the first kept, -/
theorem deal_three {I D A O : sProp 𝕄} {ΦI ΦA ΦO Ψ : Fin 2 → Fin 16 → sProp 𝕄} (hI : I ⊢ iprop(D ∗ overTiles ΦI)) (hA : A = overTiles ΦA)
    (hO : O ⊢ overTiles ΦO) (hΨ : ∀ c s, iprop(ΦI c s ∗ ΦA c s ∗ ΦO c s) = Ψ c s) : iprop(I ∗ A ∗ O) ⊢ iprop(D ∗ overTiles Ψ) := by
  have h : overTiles Ψ = iprop(overTiles ΦI ∗ overTiles ΦA ∗ overTiles ΦO) := by
    rw [← overTiles_sep, ← overTiles_sep]
    exact congrArg overTiles (funext fun c => funext fun s => (hΨ c s).symm)
  rw [h, hA]
  iintro ⟨HI, HA, HO⟩
  ihave HI := hI $$ HI
  icases HI with ⟨HD, HI⟩
  isplitl [HD]; · iexact HD
  isplitl [HI]; · iexact HI
  isplitl [HA]; · iexact HA
  iapply hO $$ HO

omit [FloatOps F] in
/-- and gathering them. -/
theorem gather_three {I D A O : sProp 𝕄} {ΦI ΦA ΦO Ψ : Fin 2 → Fin 16 → sProp 𝕄} (hI : iprop(D ∗ overTiles ΦI) ⊢ I) (hA : A = overTiles ΦA)
    (hO : overTiles ΦO ⊢ O) (hΨ : ∀ c s, iprop(ΦI c s ∗ ΦA c s ∗ ΦO c s) = Ψ c s) : iprop(D ∗ overTiles Ψ) ⊢ iprop(I ∗ A ∗ O) := by
  have h : overTiles Ψ = iprop(overTiles ΦI ∗ overTiles ΦA ∗ overTiles ΦO) := by
    rw [← overTiles_sep, ← overTiles_sep]
    exact congrArg overTiles (funext fun c => funext fun s => (hΨ c s).symm)
  rw [h, hA]
  iintro ⟨HD, HI, HA, HO⟩
  isplitl [HD HI]
  · iapply hI
    isplitl [HD]; · iexact HD
    iexact HI
  isplitl [HA]; · iexact HA
  iapply hO $$ HO

omit [FloatOps F] in
theorem bigSep_cast {n n' : ℕ} (h : n = n') (Φ : Fin n' → sProp 𝕄) : (bigSep Finset.univ fun c : Fin n => Φ (Fin.cast h c)) = bigSep Finset.univ Φ := by
  subst h; rfl

/-- What a call's tiles are given and give back, all in all. -/
theorem st_eq (q : Fin 2) (d : Dev nD) : (bigSep Finset.univ fun c : Fin ((K (F := F)).nCore q) => (P m).st q d c) = overTiles fun c s => partIn m q d c s :=
  (bigSep_cast (nCore_eq q) (fun c => bigSep Finset.univ fun i : Fin ((K (F := F)).nSub q) => partIn m q d c (Fin.cast (nSub_eq q) i))).trans
    (bigSep_congr fun c _ => bigSep_cast (nSub_eq q) (partIn m q d c))
theorem dn_eq (q : Fin 2) (d : Dev nD) : (bigSep Finset.univ fun c : Fin ((K (F := F)).nCore q) => (P m).dn q d c) = overTiles fun c s => partOut m q d c s :=
  (bigSep_cast (nCore_eq q) (fun c => bigSep Finset.univ fun i : Fin ((K (F := F)).nSub q) => partOut m q d c (Fin.cast (nSub_eq q) i))).trans
    (bigSep_congr fun c _ => bigSep_cast (nSub_eq q) (partOut m q d c))

/-- Call 0 is given the reciprocal temperature's shares, its argument and its result, -/
theorem give0 (d : Dev nD) (f : Buf (Elt F) (pLoc d)) :
    iprop((iLoc d ↦{fullShare} recip (m (tLoc d))) ∗ (aLoc d ↦{fullShare} m (aLoc d)) ∗ (pLoc d ↦{fullShare} f))
      ⊢ (iprop((iLoc d ↦{Transfers.shareDrop fullShare 32} recip (m (tLoc d)))
          ∗ bigSep Finset.univ fun c : Fin ((K (F := F)).nCore 0) => (P m).st 0 d c) : sProp 𝕄) := by
  rw [st_eq]
  exact deal_three (i_dealt d (recip (m (tLoc d)))).1 (a_dealt d (m (aLoc d)))
    ((Entails.of_eq (p_dealt d f)).trans (todo_of d (Memref.whole main_v4_scv) (fun _ => f))) (fun _ _ => rfl)

/-- and gives them back, the result at the softmax rows of the argument. -/
theorem take0 (d : Dev nD) :
    iprop((iLoc d ↦{Transfers.shareDrop fullShare 32} recip (m (tLoc d)))
        ∗ bigSep Finset.univ fun c : Fin ((K (F := F)).nCore 0) => (P m).dn 0 d c)
      ⊢ (iprop((iLoc d ↦{fullShare} recip (m (tLoc d))) ∗ (aLoc d ↦{fullShare} m (aLoc d))
          ∗ (pLoc d ↦{fullShare} (softArr (recip (m (tLoc d))) (m (aLoc d)) : Buf (Elt F) (pLoc d)))) : sProp 𝕄) := by
  rw [dn_eq]
  exact gather_three (i_dealt d (recip (m (tLoc d)))).2 (a_dealt d (m (aLoc d)))
    ((of_done d (Memref.whole main_arg0_scv) (Memref.whole main_v4_scv) (fun _ => m (aLoc d)) (recip (m (tLoc d)))
      (fun _ => (softArr (recip (m (tLoc d))) (m (aLoc d)) : Buf (Elt F) (pLoc d)))
      (fun i k => softArr_chunk (recip (m (tLoc d))) (m (aLoc d)) (chunkNo i k))).trans (Entails.of_eq (p_dealt d _).symm)) (fun _ _ => rfl)

/-- Call 1 is given the reciprocal temperature's shares, its argument and its result, -/
theorem give1 (d : Dev nD) (f : Buf (Elt F) (qLoc d)) :
    iprop((iLoc d ↦{fullShare} recip (m (tLoc d))) ∗ (bLoc d ↦{fullShare} m (bLoc d)) ∗ (qLoc d ↦{fullShare} f))
      ⊢ (iprop((iLoc d ↦{Transfers.shareDrop fullShare 32} recip (m (tLoc d)))
          ∗ bigSep Finset.univ fun c : Fin ((K (F := F)).nCore 1) => (P m).st 1 d c) : sProp 𝕄) := by
  rw [st_eq]
  exact deal_three (i_dealt d (recip (m (tLoc d)))).1 (b_dealt d (m (bLoc d)))
    ((Entails.of_eq (q_dealt d f)).trans (todo_of d (Memref.whole main_v5_scv) (fun _ => f))) (fun _ _ => rfl)

/-- and gives them back, the result at the softmax rows of the argument. -/
theorem take1 (d : Dev nD) :
    iprop((iLoc d ↦{Transfers.shareDrop fullShare 32} recip (m (tLoc d)))
        ∗ bigSep Finset.univ fun c : Fin ((K (F := F)).nCore 1) => (P m).dn 1 d c)
      ⊢ (iprop((iLoc d ↦{fullShare} recip (m (tLoc d))) ∗ (bLoc d ↦{fullShare} m (bLoc d))
          ∗ (qLoc d ↦{fullShare} (softArr (recip (m (tLoc d))) (m (bLoc d)) : Buf (Elt F) (qLoc d)))) : sProp 𝕄) := by
  rw [dn_eq]
  exact gather_three (i_dealt d (recip (m (tLoc d)))).2 (b_dealt d (m (bLoc d)))
    ((of_done d (Memref.whole main_arg1_scv) (Memref.whole main_v5_scv) (fun _ => m (bLoc d)) (recip (m (tLoc d)))
      (fun _ => (softArr (recip (m (tLoc d))) (m (bLoc d)) : Buf (Elt F) (qLoc d)))
      (fun i k => softArr_chunk (recip (m (tLoc d))) (m (bLoc d)) (chunkNo i k))).trans (Entails.of_eq (q_dealt d _).symm)) (fun _ _ => rfl)

/-! ## @main -/

abbrev op0 : HloOp τ sig (Elt F) := nullary main_cst (constant S_ .f32 0x3F800000#32)
abbrev op1 : HloOp τ sig (Elt F) := unary main_cst main_v0 (broadcastInDim S16 ![] bcast_S_S16 : (⟨S_, .f32⟩ : BufTy).Contents (Elt F) → (⟨S16, .f32⟩ : BufTy).Contents (Elt F))
abbrev op2 : HloOp τ sig (Elt F) := unary main_arg2 main_v1 (sitofp .f32 : (⟨S_, .i32⟩ : BufTy).Contents (Elt F) → (⟨S_, .f32⟩ : BufTy).Contents (Elt F))
abbrev op3 : HloOp τ sig (Elt F) := unary main_v1 main_v2 (broadcastInDim S16 ![] bcast_S_S16 : (⟨S_, .f32⟩ : BufTy).Contents (Elt F) → (⟨S16, .f32⟩ : BufTy).Contents (Elt F))
abbrev op4 : HloOp τ sig (Elt F) := binary main_v0 main_v2 main_v3 (Host.divf : (⟨S16, .f32⟩ : BufTy).Contents (Elt F) → (⟨S16, .f32⟩ : BufTy).Contents (Elt F) → (⟨S16, .f32⟩ : BufTy).Contents (Elt F))

abbrev dv (b : Ref sig .tc) : DevRef τ sig := Proc.devRef .tc b

/-- The TensorCore's ten arrays: the arguments, the reciprocal temperature and the results; and the rest. -/
abbrev rest4 : Finset (DevRef τ sig) := {dv main_cst, dv main_v0, dv main_v1, dv main_v2}
abbrev all10 : Finset (DevRef τ sig) :=
  insert (dv main_arg0) (insert (dv main_arg1) (insert (dv main_arg2) (insert (dv main_v3) (insert (dv main_v4) (insert (dv main_v5) rest4)))))

omit [FloatOps F] in
theorem held_all10 (d : Dev nD) (W : Valuation τ sig (Elt F)) :
    (held (SparseCore.T d) all10 W : sProp 𝕄) = iprop((aLoc d ↦{fullShare} W (dv main_arg0)) ∗ (bLoc d ↦{fullShare} W (dv main_arg1))
      ∗ (tLoc d ↦{fullShare} W (dv main_arg2)) ∗ (iLoc d ↦{fullShare} W (dv main_v3)) ∗ (pLoc d ↦{fullShare} W (dv main_v4))
      ∗ (qLoc d ↦{fullShare} W (dv main_v5)) ∗ held (SparseCore.T d) rest4 W) := by
  unfold held all10
  rw [SparseCore.bigSep_insert' (by decide), SparseCore.bigSep_insert' (by decide), SparseCore.bigSep_insert' (by decide),
    SparseCore.bigSep_insert' (by decide), SparseCore.bigSep_insert' (by decide), SparseCore.bigSep_insert' (by decide)]

theorem sub0 : (op0 (F := F)).bufs ⊆ all10 := show ({dv main_cst} : Finset (DevRef τ sig)) ⊆ all10 by decide
theorem sub1 : (op1 (F := F)).bufs ⊆ all10 := show ({dv main_cst, dv main_v0} : Finset (DevRef τ sig)) ⊆ all10 by decide
theorem sub2 : (op2 (F := F)).bufs ⊆ all10 := show ({dv main_arg2, dv main_v1} : Finset (DevRef τ sig)) ⊆ all10 by decide
theorem sub3 : (op3 (F := F)).bufs ⊆ all10 := show ({dv main_v1, dv main_v2} : Finset (DevRef τ sig)) ⊆ all10 by decide
theorem sub4 : (op4 (F := F)).bufs ⊆ all10 := show ({dv main_v0, dv main_v2, dv main_v3} : Finset (DevRef τ sig)) ⊆ all10 by decide

/-- The contents at launch, -/
def V0 (d : Dev nD) : Valuation τ sig (Elt F) := fun b => m (d, b)

omit [FloatOps F] in
theorem unscoped_held (d : Dev nD) : (unscopedBufs d (fun b => m ((SparseCore.T d).loc b)) : sProp 𝕄) = held (SparseCore.T d) all10 (V0 m d) := by
  unfold unscopedBufs held
  rw [show (Finset.univ.filter fun b : Ref sig .tc => ¬ b.isScoped)
      = insert main_arg0 (insert main_arg1 (insert main_arg2 (insert main_v3 (insert main_v4 (insert main_v5 {main_cst, main_v0, main_v1, main_v2}))))) by decide]
  unfold all10 rest4
  repeat rw [SparseCore.bigSep_insert' (by decide)]
  rw [bigSep_singleton, bigSep_singleton]
  rfl

/-- and after the host operations. -/
abbrev V5 (d : Dev nD) : Valuation τ sig (Elt F) :=
  (op4 (F := F)).result ((op3 (F := F)).result ((op2 (F := F)).result ((op1 (F := F)).result ((op0 (F := F)).result (V0 m d)))))

theorem V5_i (d : Dev nD) : V5 m d (dv main_v3) = recip (m (tLoc d)) := by after_results_simp; rfl
theorem V5_a (d : Dev nD) : V5 m d (dv main_arg0) = m (aLoc d) := by after_results_simp; rfl
theorem V5_b (d : Dev nD) : V5 m d (dv main_arg1) = m (bLoc d) := by after_results_simp; rfl
theorem V5_t (d : Dev nD) : V5 m d (dv main_arg2) = m (tLoc d) := by after_results_simp; rfl

/-- What @main leaves: the arguments, and the results at their softmax rows. -/
def FIN (d : Dev nD) : sProp 𝕄 :=
  iprop((aLoc d ↦{fullShare} m (aLoc d)) ∗ (bLoc d ↦{fullShare} m (bLoc d)) ∗ (tLoc d ↦{fullShare} m (tLoc d))
    ∗ (pLoc d ↦{fullShare} (softArr (recip (m (tLoc d))) (m (aLoc d)) : Buf (Elt F) (pLoc d)))
    ∗ (qLoc d ↦{fullShare} (softArr (recip (m (tLoc d))) (m (bLoc d)) : Buf (Elt F) (qLoc d))))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := all10) sub0 (V := V0 m d)) $$ [Hb Hheld]
  · isplitl [Hb] <;> iassumption
  iintro ⟨Hb, Hheld⟩
  rw [wp_ret]; imodintro
  iapply (wp_hlo_within 𝒱 (SparseCore.T d) none Set.univ (op := op1) (S := all10) sub1) $$ [Hb Hheld]
  · isplitl [Hb] <;> iassumption
  iintro ⟨Hb, Hheld⟩
  rw [wp_ret]; imodintro
  iapply (wp_hlo_within 𝒱 (SparseCore.T d) none Set.univ (op := op2) (S := all10) sub2) $$ [Hb Hheld]
  · isplitl [Hb] <;> iassumption
  iintro ⟨Hb, Hheld⟩
  rw [wp_ret]; imodintro
  iapply (wp_hlo_within 𝒱 (SparseCore.T d) none Set.univ (op := op3) (S := all10) sub3) $$ [Hb Hheld]
  · isplitl [Hb] <;> iassumption
  iintro ⟨Hb, Hheld⟩
  rw [wp_ret]; imodintro
  iapply (wp_hlo_within 𝒱 (SparseCore.T d) none Set.univ (op := op4) (S := all10) sub4) $$ [Hb Hheld]
  · isplitl [Hb] <;> iassumption
  iintro ⟨Hb, Hheld⟩
  rw [wp_ret]; imodintro
  ihave Hh := (Entails.of_eq (held_all10 (F := F) d (V5 m d))) $$ Hheld
  rw [V5_i, V5_a, V5_b, V5_t]
  icases Hh with ⟨HA, HB, HT, HI, HP, HQ, -⟩
  ihave H := (give0 m d _) $$ [HI HA HP]
  · isplitl [HI]; · iexact HI
    isplitl [HA]; · iexact HA
    iexact HP
  icases H with ⟨HI, Hin⟩
  iapply ((K (F := F)).wp_run (D (F := F)) 𝒱 (EH := EH) (P := P m) κ d 0) $$ [Hst Hin HI HB HT HQ Hb Hts]
  isplitr; · iexact Hctx
  isplitl [Hst]; · iexact Hst
  isplitl [Hin]; · iexact Hin
  iintro ⟨Hst, Hout⟩
  ihave H := (take0 m d) $$ [HI Hout]
  · isplitl [HI]; · iexact HI
    iexact Hout
  icases H with ⟨HI, HA, HP⟩
  ihave H := (give1 m d _) $$ [HI HB HQ]
  · isplitl [HI]; · iexact HI
    isplitl [HB]; · iexact HB
    iexact HQ
  icases H with ⟨HI, Hin⟩
  iapply ((K (F := F)).wp_run (D (F := F)) 𝒱 (EH := EH) (P := P m) κ d 1) $$ [Hst Hin HI HA HT HP Hb Hts]
  isplitr; · iexact Hctx
  isplitl [Hst]; · iexact Hst
  isplitl [Hin]; · iexact Hin
  iintro ⟨Hst, Hout⟩
  ihave H := (take1 m d) $$ [HI Hout]
  · isplitl [HI]; · iexact HI
    iexact Hout
  icases H with ⟨-, HB, HQ⟩
  imodintro
  isplitl [Hst]; · iexact Hst
  isplitr [Hb Hts]
  · unfold FIN
    isplitl [HA]; · iexact HA
    isplitl [HB]; · iexact HB
    isplitl [HT]; · iexact HT
    isplitl [HP]; · iexact HP
    iexact HQ
  isplitl [Hb] <;> iassumption

/-! ## The run -/

/-- What holds of device `d`'s memory at the end. -/
def fq (d : Dev nD) (M : MemSt nD τ sig (Elt F)) : Prop :=
  M.mem (aLoc d) = m (aLoc d) ∧ M.mem (bLoc d) = m (bLoc d) ∧ M.mem (tLoc d) = m (tLoc d)
    ∧ M.mem (pLoc d) = (softArr (recip (m (tLoc d))) (m (aLoc d)) : Buf (Elt F) (pLoc d))
    ∧ M.mem (qLoc d) = (softArr (recip (m (tLoc d))) (m (bLoc d)) : Buf (Elt F) (qLoc d))

omit [FloatOps F] in
theorem mem_eq {ℓ : Loc nD τ sig} {f : Buf (Elt F) ℓ} {s' : Phys nD τ sig (Elt F)} :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'.mem⌝ : sProp 𝕄) := by
  unfold FIN fq
  iintro ⟨⟨HA, HB, HT, HP, HQ⟩, HSI⟩
  ihave H := mem_eq $$ [HA HSI]
  · isplitl [HA] <;> iassumption
  icases H with ⟨%ha, HSI⟩
  ihave H := mem_eq $$ [HB HSI]
  · isplitl [HB] <;> iassumption
  icases H with ⟨%hb, HSI⟩
  ihave H := mem_eq $$ [HT HSI]
  · isplitl [HT] <;> iassumption
  icases H with ⟨%ht, HSI⟩
  ihave H := mem_eq $$ [HP HSI]
  · isplitl [HP] <;> iassumption
  icases H with ⟨%hp, HSI⟩
  ihave H := mem_eq $$ [HQ HSI]
  · isplitl [HQ] <;> iassumption
  icases H with ⟨%hq, HSI⟩
  ipureintro; exact ⟨ha, hb, ht, hp, hq⟩

def QC : PUnit × MemSt nD τ sig (Elt F) → Prop := fun r => (∀ c : Dev nD, fq m c r.2) ∧ r.2.sem = fun _ => 0

/-- From any memory the program runs to the results at the softmax rows of the arguments. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m | 1 => tileObl1 m)
    (fun q _ => SparseCore.Cfg.VecSplit.of_plain (vecSplit m q))
    m ρ main (fun _ => iprop(emp)) (FIN m) (u₀ (F := F)) (sep_elim_left.trans (hu₀ m)) (hmain m ρ) (fun d s' => fq m d s'.mem) (hfin m) (QC m)
    (fun _ h hz => ⟨h, hz⟩)

end Cert.Proof.Softmax
-- ==== Proof.RowMath.lean ====
/-
  The mathematics of one row, on the extended reals.

  Four exchanges of lanes leave the sum of sixteen values in every lane (`sum16`). Dividing exponentials by their sum
  does not change when a finite number is taken from every exponent, and a row of `-∞` alone gives `0 / 0` either way
  (`softmax_shift`): the reference takes away the array's maximum and then the row's, the kernel nothing.
-/
module

public import Idealize.ShloMosaic.PureOps.Ideal.Laws

@[expose] public section

noncomputable section

namespace Cert.Proof.Softmax

open Idealize.ShloMosaic

/-! ## The sum by exchanges -/

/-- The lane whose number is `l`'s exclusive or with `k`. -/
def flip (k : Fin 16) (l : Fin 16) : Fin 16 := Fin.ofNat 16 (l.val ^^^ k.val)

/-- To each lane the value of its partner added. -/
def exch {M : Type} [AddCommMonoid M] (k : Fin 16) (f : Fin 16 → M) : Fin 16 → M := fun l => f l + f (flip k l)

/-- A sum over a set of lanes and one over the partners of a set of lanes. -/
theorem exch_sum {M : Type} [AddCommMonoid M] (k : Fin 16) (f : Fin 16 → M) (A : Fin 16 → Finset (Fin 16)) (g : Fin 16 → M)
    (hg : ∀ l, g l = ∑ j ∈ A l, f j) (hd : ∀ l, Disjoint (A l) (A (flip k l))) (l : Fin 16) :
    exch k g l = ∑ j ∈ A l ∪ A (flip k l), f j := by
  unfold exch
  rw [hg, hg, Finset.sum_union (hd l)]

/-- The lanes summed after one, two, three and four exchanges. -/
def lanes1 (l : Fin 16) : Finset (Fin 16) := {l} ∪ {flip 1 l}
def lanes2 (l : Fin 16) : Finset (Fin 16) := lanes1 l ∪ lanes1 (flip 2 l)
def lanes3 (l : Fin 16) : Finset (Fin 16) := lanes2 l ∪ lanes2 (flip 4 l)
def lanes4 (l : Fin 16) : Finset (Fin 16) := lanes3 l ∪ lanes3 (flip 8 l)

/-- After four exchanges every lane holds the sum of the sixteen. -/
theorem sum16 {M : Type} [AddCommMonoid M] (f : Fin 16 → M) (l : Fin 16) :
    exch 8 (exch 4 (exch 2 (exch 1 f))) l = ∑ j, f j := by
  have h0 : ∀ l, f l = ∑ j ∈ ({l} : Finset (Fin 16)), f j := fun l => (Finset.sum_singleton _ _).symm
  have h1 := exch_sum 1 f (fun l => {l}) f h0 (by decide +kernel)
  have h2 := exch_sum 2 f lanes1 _ h1 (by decide +kernel)
  have h3 := exch_sum 4 f lanes2 _ h2 (by decide +kernel)
  have h4 := exch_sum 8 f lanes3 _ h3 (by decide +kernel)
  have hu : ∀ l, lanes4 l = Finset.univ := by decide +kernel
  exact (h4 l).trans (by rw [show lanes3 l ∪ lanes3 (flip 8 l) = Finset.univ from hu l])

/-! ## The quotient of exponentials -/

theorem coe_sum {ι : Type} (s : Finset ι) (a : ι → ℝ) : ∑ k ∈ s, ((a k : ℝ) : EReal) = ((∑ k ∈ s, a k : ℝ) : EReal) := by
  induction s using Finset.cons_induction with
  | empty => simp
  | cons i s hi ih => rw [Finset.sum_cons, Finset.sum_cons, ih, EReal.coe_add]

/-- A positive factor common to two reals leaves their quotient. -/
theorem div_scale (a s c : ℝ) (hc : 0 < c) : Ideal.div (a : EReal) (s : EReal) = Ideal.div ((a * c : ℝ) : EReal) ((s * c : ℝ) : EReal) := by
  unfold Ideal.div
  by_cases hs : s = 0
  · subst hs
    have h : (0 : EReal) < ((a * c : ℝ) : EReal) ↔ (0 : EReal) < (a : EReal) := by
      rw [EReal.coe_pos, EReal.coe_pos]; exact mul_pos_iff_of_pos_right hc
    simp only [zero_mul, EReal.coe_zero, if_true, h]
  · have h1 : ((s : ℝ) : EReal) ≠ 0 := EReal.coe_ne_zero.mpr hs
    have h2 : ((s * c : ℝ) : EReal) ≠ 0 := EReal.coe_ne_zero.mpr (mul_ne_zero hs hc.ne')
    rw [if_neg h1, if_neg h2, ← EReal.coe_inv, ← EReal.coe_inv, ← EReal.coe_mul, ← EReal.coe_mul]
    congr 1
    field_simp

/-- A number below `+∞` less one that is not below it stays below `+∞`. -/
theorem sub_lt_top' (y M : EReal) (hy : y < ⊤) (hM : y ≤ M) : y - M < ⊤ := by
  by_cases hb : y = ⊥
  · rw [hb]; simp
  · have hMb : M ≠ ⊥ := fun e => hb (le_bot_iff.mp (e ▸ hM))
    rw [sub_eq_add_neg]
    exact EReal.add_lt_top hy.ne fun e => hMb (EReal.neg_eq_top_iff.mp e)

/-- A row below `+∞`, the number `M` above it and the number `R` above the row less `M`: the exponentials of the row
    less both numbers are the row's exponentials times one positive real. -/
theorem exp_shift (y : Fin 16 → EReal) (hy : ∀ l, y l < ⊤) (M R : EReal) (hM : ∀ l, y l ≤ M) (hM' : M < ⊤)
    (hR : ∀ l, y l - M ≤ R) (hR' : R < ⊤) :
    ∃ (a : Fin 16 → ℝ) (c : ℝ), 0 < c ∧ (∀ l, Ideal.exp (y l) = (a l : EReal)) ∧ ∀ l, Ideal.exp (y l - M - R) = ((a l * c : ℝ) : EReal) := by
  by_cases h : ∀ l, y l = ⊥
  · exact ⟨fun _ => 0, 1, one_pos, fun l => by rw [h l]; simp, fun l => by rw [h l]; simp⟩
  · obtain ⟨l0, h0⟩ := not_forall.mp h
    have hMb : M ≠ ⊥ := fun e => h0 (le_bot_iff.mp (e ▸ hM l0))
    lift M to ℝ using ⟨hM'.ne, hMb⟩
    have hRb : R ≠ ⊥ := by
      intro e
      have hl := hR l0
      rw [e, le_bot_iff] at hl
      obtain ⟨r, hr⟩ : ∃ r : ℝ, y l0 = r := ⟨(y l0).toReal, (EReal.coe_toReal (hy l0).ne h0).symm⟩
      rw [hr, ← EReal.coe_sub] at hl
      exact EReal.coe_ne_bot _ hl
    lift R to ℝ using ⟨hR'.ne, hRb⟩
    refine ⟨fun l => (Ideal.exp (y l)).toReal, Real.exp (-(M + R)), Real.exp_pos _, fun l => ?_, fun l => ?_⟩
    · by_cases hb : y l = ⊥
      · simp [hb]
      · obtain ⟨r, hr⟩ : ∃ r : ℝ, y l = r := ⟨(y l).toReal, (EReal.coe_toReal (hy l).ne hb).symm⟩
        simp only [hr]
        rw [Ideal.exp_coe, EReal.toReal_coe]
    · by_cases hb : y l = ⊥
      · simp [hb]
      · obtain ⟨r, hr⟩ : ∃ r : ℝ, y l = r := ⟨(y l).toReal, (EReal.coe_toReal (hy l).ne hb).symm⟩
        simp only [hr]
        rw [← EReal.coe_sub, ← EReal.coe_sub, Ideal.exp_coe, Ideal.exp_coe, EReal.toReal_coe, ← Real.exp_add]
        congr 2; ring

/-- So the two quotients are one. -/
theorem softmax_shift (y : Fin 16 → EReal) (hy : ∀ l, y l < ⊤) (M R : EReal) (hM : ∀ l, y l ≤ M) (hM' : M < ⊤)
    (hR : ∀ l, y l - M ≤ R) (hR' : R < ⊤) (l : Fin 16) :
    Ideal.div (Ideal.exp (y l)) (∑ k, Ideal.exp (y k)) = Ideal.div (Ideal.exp (y l - M - R)) (0 + ∑ k, Ideal.exp (y k - M - R)) := by
  obtain ⟨a, c, hc, ha, hb⟩ := exp_shift y hy M R hM hM' hR hR'
  simp only [ha, hb, zero_add]
  rw [coe_sum, coe_sum, ← Finset.sum_mul]
  exact div_scale _ _ _ hc

end Cert.Proof.Softmax
-- ==== Proof.KernelRow.lean ====
/-
  The kernel's row on the extended reals: the exponential of each quotient by the temperature over the sum of the
  sixteen.
-/
module

public import proofs.«01_k».proof.Proof.Row
public import proofs.«01_k».proof.Proof.RowMath

@[expose] public section

noncomputable section

namespace Cert.Proof.Softmax

open Cert.KernelIdeal Cert.KernelIdeal.Gen
open Idealize.ShloMosaic Idealize.ShloMosaic.ValueIdx

/-- Each exchange is with the lane whose number differs in one bit. -/
theorem lane1 : ∀ l : Fin 16, (k0_pay6 (ix1 l)).toNat = (flip 1 l).val := by decide +kernel
theorem lane2 : ∀ l : Fin 16, (k0_pay7 (ix1 l)).toNat = (flip 2 l).val := by decide +kernel
theorem lane4 : ∀ l : Fin 16, (k0_pay8 (ix1 l)).toNat = (flip 4 l).val := by decide +kernel
theorem lane8 : ∀ l : Fin 16, (k0_pay9 (ix1 l)).toNat = (flip 8 l).val := by decide +kernel

theorem bfly_exch (k : Fin 16) (s : Vec Ideal S16 .f32) (p : IVec S16 32) (h : ∀ a x, ((![p] : Fin 1 → IVec S16 32) a x).toNat < S16.size a)
    (hp : ∀ l : Fin 16, (p (ix1 l)).toNat = (flip k l).val) (l : Fin 16) :
    (bfly s p h (ix1 l) : EReal) = exch k (fun j : Fin 16 => (s (ix1 j) : EReal)) l := by
  show (s (ix1 l) : EReal) + s (idxAt ![p] h (ix1 l)) = s (ix1 l) + s (ix1 (flip k l))
  congr 2
  funext a
  fin_cases a
  exact Fin.ext (hp l)

theorem total_sum (s : Vec Ideal S16 .f32) (l : Fin 16) : (total s (ix1 l) : EReal) = ∑ j : Fin 16, (s (ix1 j) : EReal) := by
  unfold total
  rw [bfly_exch 8 _ _ _ lane8]
  rw [show (fun j : Fin 16 => _) = _ from funext fun j => bfly_exch 4 _ _ (k0_idx3_inb _ chk3) lane4 j]
  rw [show (fun j : Fin 16 => _) = _ from funext fun j => bfly_exch 2 _ _ (k0_idx2_inb _ chk2) lane2 j]
  rw [show (fun j : Fin 16 => _) = _ from funext fun j => bfly_exch 1 _ _ (k0_idx1_inb _ chk1) lane1 j]
  exact sum16 _ l

/-- The kernel's row. -/
theorem rowOut_apply (w x : Vec Ideal S16 .f32) (l : Fin 16) :
    (rowOut w x (ix1 l) : EReal) = Ideal.div (Ideal.exp ((x (ix1 l) : EReal) * w (ix1 l))) (∑ k : Fin 16, Ideal.exp ((x (ix1 k) : EReal) * w (ix1 k))) := by
  show Ideal.div (Ideal.exp ((x (ix1 l) : EReal) * w (ix1 l))) (total (expRow w x) (ix1 l)) = _
  rw [total_sum]; rfl

end Cert.Proof.Softmax
-- ==== Proof.Reference.lean ====
/-
  The reference on the extended reals: the array divided by the temperature, less the array's maximum, then the softmax
  of each row the usual way: less the row's maximum, exponentials, over their sum. Its run is the library's reading of
  its host operations; it declares no semaphore, so every counter ends at zero.
-/
module

public import proofs.«01_k».proof.Proof.RowMath
public import proofs.«01_k».proof.Proof.Gen.ReferenceIdeal.Run
public import Idealize.ShloMosaic.Lib.Pointwise.Reduce

@[expose] public section

noncomputable section

namespace Cert.Proof.Softmax.Ref

open Cert.ReferenceIdeal Cert.ReferenceIdeal.Gen
open Idealize.ShloMosaic Idealize.SL.Sem

/-- No device has a semaphore. -/
theorem no_sems : IsEmpty (GSem nD τ sig) := by
  constructor
  rintro ⟨t, s⟩
  cases s with
  | reg s => exact Fin.elim0 s
  | dma s => exact Fin.elim0 s

/-! ## The operations, one step at a time -/

abbrev Arr : Type := FVec Ideal S320000x16 .f32

/-- The array over the temperature, -/
def quot (x : Arr) (t : IVec S_ 32) : Arr := Host.divf x (broadcastInDim S320000x16 ![] bcast_S_S320000x16 (sitofp (F := Ideal) .f32 t))
/-- the maximum of an array, -/
def top (y : Arr) : FVec Ideal S_ .f32 := Host.reduce FloatOps.maximumf y (constant S_ .f32 0xFF800000#32) reducesTo_S320000x16_S_d0_1 h_S_
/-- an array less its maximum, -/
def lowered (y : Arr) : Arr := subf y (broadcastInDim S320000x16 ![] bcast_S_S320000x16 (top y))
/-- the maxima of the rows, taken from `-∞`, -/
def rowMax (z : Arr) : FVec Ideal S320000 .f32 := Host.reduce FloatOps.maximumf z (constant S_ .f32 0xFF800000#32) reducesTo_S320000x16_S320000_d1 h_S_
/-- those and `-∞`, the larger, -/
def rowTop (z : Arr) : FVec Ideal S320000 .f32 := maximumf (broadcastInDim S320000 ![] bcast_S_S320000 (constant S_ .f32 0xFF800000#32)) (rowMax z)
/-- a number for each row, along the row, -/
def along (v : FVec Ideal S320000 .f32) : Arr :=
  broadcastInDim S320000x16 ![0, 1] bcast_S320000x1_S320000x16_0_1 (broadcastInDim S320000x1 ![0] bcast_S320000_S320000x1_0 v)
/-- the exponentials, -/
def exps (z : Arr) : Arr := Host.exp (subf z (along (rowTop z)))
/-- the sums of the rows, -/
def rowSum (e : Arr) : FVec Ideal S320000 .f32 := Host.reduceAdd e (constant S_ .f32 0x00000000#32) reducesTo_S320000x16_S320000_d1 h_S_
/-- and an array over its rows' sums. -/
def over (e : Arr) : Arr := Host.divf e (along (rowSum e))

/-- What the reference computes of one array. -/
def result (x : Arr) (t : IVec S_ 32) : Arr := over (exps (lowered (quot x t)))

/-! ## Read at an index -/

theorem bot_bits : Ideal.ofBits .f32 0xFF800000#32 = ⊥ := by simp [Ideal.ofBits, Ideal.ieee]

theorem along_apply (v : FVec Ideal S320000 .f32) (r : Fin 320000) (l : Fin 16) : along v (ix2 r l) = v (ix1 r) := by
  refine congrArg v (funext fun a => ?_)
  match a with
  | ⟨0, _⟩ => exact Fin.ext rfl

theorem quot_apply (x : Arr) (t : IVec S_ 32) (j : S320000x16.Idx) :
    (quot x t j : EReal) = Ideal.div (x j) (((t ix0).toInt : ℝ) : EReal) := by
  have h : broadcastInDim S320000x16 ![] bcast_S_S320000x16 (sitofp (F := Ideal) .f32 t) j = sitofp (F := Ideal) .f32 t ix0 :=
    congrArg (sitofp (F := Ideal) .f32 t) (funext fun a => a.elim0)
  exact congrArg (fun v : EReal => Ideal.div (x j) v) h

section Max
variable {s t : Shape} {axes : List (Fin s.rank)}

/-- A maximum taken from `-∞` is at least what it is taken over, -/
theorem le_reduce (y : FVec Ideal s .f32) (h : s.ReducesTo axes t) (i : s.Idx) :
    (y i : EReal) ≤ Host.reduce FloatOps.maximumf y (constant S_ .f32 0xFF800000#32) h h_S_ (h.drop i) := by
  rw [Host.reduce_eq_fold]
  exact (Finset.le_fold_max (y i : EReal)).mpr (Or.inr ⟨i, Finset.mem_filter.mpr ⟨Finset.mem_univ _, rfl⟩, le_rfl⟩)

/-- and below `+∞` when all of that is. -/
theorem reduce_lt (y : FVec Ideal s .f32) (h : s.ReducesTo axes t) (hy : ∀ i, (y i : EReal) < ⊤) (j : t.Idx) :
    Host.reduce FloatOps.maximumf y (constant S_ .f32 0xFF800000#32) h h_S_ j < (⊤ : EReal) := by
  rw [Host.reduce_eq_fold]
  refine (Finset.fold_max_lt (⊤ : EReal)).mpr ⟨?_, fun i _ => hy i⟩
  show Ideal.ofBits .f32 0xFF800000#32 < ⊤
  rw [bot_bits]; exact bot_lt_top

/-- A row's maximum is at least the row. -/
theorem le_rowMax {n k : ℕ} (z : FVec Ideal ⟨2, ![n, k]⟩ .f32) (h : (⟨2, ![n, k]⟩ : Shape).ReducesTo [1] ⟨1, ![n]⟩) (r : Fin n) (l : Fin k) :
    (z (ix2 r l) : EReal) ≤ Host.reduce FloatOps.maximumf z (constant S_ .f32 0xFF800000#32) h h_S_ (ix1 r) := by
  have hd : h.drop (ix2 r l) = ix1 r := (Shape.ReducesTo.fiber_r2_a1 h (ix1 r) (ix2 r l)).mpr ⟨l, rfl⟩
  have := le_reduce z h (ix2 r l)
  rwa [hd] at this

/-- A row's sum. -/
theorem sum_row {n k : ℕ} (z : FVec Ideal ⟨2, ![n, k]⟩ .f32) (h : (⟨2, ![n, k]⟩ : Shape).ReducesTo [1] ⟨1, ![n]⟩) (r : Fin n) :
    (Host.reduceAdd z (constant S_ .f32 0x00000000#32) h h_S_ (ix1 r) : EReal) = 0 + ∑ l : Fin k, (z (ix2 r l) : EReal) := by
  rw [Host.reduceAdd_apply, Ideal.hostReduceAdd_def, Ideal.hostReduceAdd_r2_a1]
  exact congrArg (fun v : EReal => v + ∑ l : Fin k, (z (ix2 r l) : EReal)) Ideal.ofBits_zero_f32

theorem max_at (x y : FVec Ideal s .f32) (j : s.Idx) : (maximumf x y j : EReal) = max (x j : EReal) (y j) := rfl

theorem splat_at (h : S_.BroadcastsInDim s ![]) (b : BitVec 32) (j : s.Idx) :
    (broadcastInDim s ![] h (constant (F := Ideal) S_ .f32 b) j : EReal) = Ideal.ofBits .f32 b := rfl

theorem divf_at (x y : FVec Ideal s .f32) (j : s.Idx) : (Host.divf x y j : EReal) = Ideal.div (x j) (y j) := rfl

end Max

theorem le_top (y : Arr) (i : S320000x16.Idx) : (y i : EReal) ≤ top y ix0 := by
  have h := le_reduce y reducesTo_S320000x16_S_d0_1 i
  rwa [← ix0_eta (reducesTo_S320000x16_S_d0_1.drop i)] at h

theorem top_lt (y : Arr) (h : ∀ i, (y i : EReal) < ⊤) : (top y ix0 : EReal) < ⊤ := reduce_lt y _ h _

theorem lowered_apply (y : Arr) (j : S320000x16.Idx) : (lowered y j : EReal) = (y j : EReal) - top y ix0 := by
  have h : broadcastInDim S320000x16 ![] bcast_S_S320000x16 (top y) j = top y ix0 := congrArg (top y) (funext fun a => a.elim0)
  exact congrArg (fun v : EReal => (y j : EReal) - v) h

theorem rowTop_apply (z : Arr) (j : S320000.Idx) : (rowTop z j : EReal) = max (⊥ : EReal) (rowMax z j) := by
  unfold rowTop
  rw [max_at, splat_at, bot_bits]

theorem le_rowTop (z : Arr) (r : Fin 320000) (l : Fin 16) : (z (ix2 r l) : EReal) ≤ rowTop z (ix1 r) := by
  rw [rowTop_apply]
  exact le_max_of_le_right (le_rowMax z reducesTo_S320000x16_S320000_d1 r l)

theorem rowTop_lt (z : Arr) (r : Fin 320000) (h : ∀ i, (z i : EReal) < ⊤) : (rowTop z (ix1 r) : EReal) < ⊤ := by
  rw [rowTop_apply]
  exact max_lt bot_lt_top (reduce_lt z _ h _)

theorem exps_apply (z : Arr) (r : Fin 320000) (l : Fin 16) :
    (exps z (ix2 r l) : EReal) = Ideal.exp ((z (ix2 r l) : EReal) - rowTop z (ix1 r)) :=
  congrArg (fun v : EReal => Ideal.exp ((z (ix2 r l) : EReal) - v)) (along_apply (rowTop z) r l)

theorem rowSum_apply (e : Arr) (r : Fin 320000) : (rowSum e (ix1 r) : EReal) = 0 + ∑ k : Fin 16, (e (ix2 r k) : EReal) :=
  sum_row e reducesTo_S320000x16_S320000_d1 r

theorem over_apply (e : Arr) (r : Fin 320000) (l : Fin 16) :
    (over e (ix2 r l) : EReal) = Ideal.div (e (ix2 r l)) (0 + ∑ k : Fin 16, (e (ix2 r k) : EReal)) := by
  unfold over
  rw [divf_at, along_apply, rowSum_apply]

/-- The reference's row, the quotients below `+∞`: the exponentials of the quotients over their sum. -/
theorem result_apply (x : Arr) (t : IVec S_ 32) (h : ∀ j, (quot x t j : EReal) < ⊤) (r : Fin 320000) (l : Fin 16) :
    (result x t (ix2 r l) : EReal)
      = Ideal.div (Ideal.exp (quot x t (ix2 r l))) (∑ k : Fin 16, Ideal.exp (quot x t (ix2 r k))) := by
  unfold result
  rw [over_apply]
  simp only [exps_apply, lowered_apply]
  refine (softmax_shift (fun k => quot x t (ix2 r k)) (fun k => h _) (top (quot x t) ix0) (rowTop (lowered (quot x t)) (ix1 r))
    (fun k => le_top _ _) (top_lt _ h) (fun k => ?_) (rowTop_lt _ _ fun j => ?_) l).symm
  · have := le_rowTop (lowered (quot x t)) r k
    rwa [lowered_apply] at this
  · rw [lowered_apply]
    exact sub_lt_top' _ _ (h _) (le_top _ _)

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16) = result (m ((c.tc : Thread nD τ).loc main_arg0)) (m ((c.tc : Thread nD τ).loc main_arg2))
      ∧ r.2.mem ((c.tc : Thread nD τ).loc main_v33) = result (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.Proof.Softmax.Ref
-- ==== Proof.Equation.lean ====
/-
  The equation: where the temperature is not zero and no quotient by it is `+∞`, the kernel's array of rows is the
  reference's result. The kernel multiplies by the reciprocal of the temperature where the reference divides, and takes
  no maximum away.
-/
module

public import proofs.«01_k».proof.Proof.Launch
public import proofs.«01_k».proof.Proof.KernelRow
public import proofs.«01_k».proof.Proof.Reference
public import proofs.«01_k».proof.Proof.Gen.Pre_quotients_below_infinity
public import Idealize.ShloMosaic.Lib.Pointwise.IndexBridge

@[expose] public section

noncomputable section

namespace Cert.Proof.Softmax

open Idealize.ShloMosaic Cert.ReferenceIdeal

/-! ## The precondition, read -/

theorem and_one : ∀ x y : BitVec 1, x &&& y = 1#1 → x = 1#1 ∧ y = 1#1 := by decide

theorem top_bits : Ideal.ofBits .f32 0x7F800000#32 = ⊤ := by simp [Ideal.ofBits, Ideal.ieee]

section At
variable {s : Shape}

theorem andi_at (x y : IVec s 1) (j : s.Idx) (h : andi x y j = 1#1) : x j = 1#1 ∧ y j = 1#1 := and_one _ _ h

theorem olt_at (x : FVec Ideal s .f32) (hb : S_.BroadcastsInDim s ![]) (j : s.Idx)
    (h : cmpf .olt x (broadcastInDim s ![] hb (constant S_ .f32 0x7F800000#32)) j = 1#1) : (x j : EReal) < ⊤ := by
  have h1 : BitVec.ofBool (decide ((x j : EReal) < Ideal.ofBits .f32 0x7F800000#32)) = 1#1 := h
  rw [top_bits] at h1
  by_contra hn
  rw [decide_eq_false hn] at h1
  exact absurd h1 (by decide)

theorem ne_at (t : IVec S_ 32) (hb : S_.BroadcastsInDim s ![]) (j : s.Idx)
    (h : broadcastInDim s ![] hb (cmpi .ne t (constantI S_ 32 0#32)) j = 1#1) : t ix0 ≠ 0#32 := by
  have h1 : broadcastInDim s ![] hb (cmpi .ne t (constantI S_ 32 0#32)) j = cmpi .ne t (constantI S_ 32 0#32) ix0 :=
    congrArg (cmpi .ne t (constantI S_ 32 0#32)) (funext fun a => a.elim0)
  rw [h1] at h
  intro h0
  have h2 : BitVec.ofBool (t ix0 != 0#32) = 1#1 := h
  rw [h0] at h2
  exact absurd h2 (by decide)

end At

/-- The precondition says the temperature is not zero and every quotient is below `+∞`. -/
theorem pre_read (x y : Ref.Arr) (t : IVec S_ 32) (h : Cert.Pre_quotients_below_infinity.fn (F := Ideal) x y t = fun _ => 1#1) :
    t ix0 ≠ 0#32 ∧ (∀ j, (Ref.quot x t j : EReal) < ⊤) ∧ ∀ j, (Ref.quot y t j : EReal) < ⊤ := by
  have hj : ∀ j : S320000x16.Idx, t ix0 ≠ 0#32 ∧ (Ref.quot x t j : EReal) < ⊤ ∧ (Ref.quot y t j : EReal) < ⊤ := fun j => by
    have e := congrFun h j
    unfold Cert.Pre_quotients_below_infinity.fn at e
    obtain ⟨e1, e3⟩ := andi_at _ _ j e
    obtain ⟨e1, e2⟩ := andi_at _ _ j e1
    exact ⟨ne_at t _ j e1, olt_at _ _ j e2, olt_at _ _ j e3⟩
  exact ⟨(hj (ix2 0 0)).1, fun j => (hj j).2.1, fun j => (hj j).2.2⟩

/-! ## Dividing by the temperature, and multiplying by its reciprocal -/

theorem one_bits : Ideal.ofBits .f32 0x3F800000#32 = 1 := by
  simp [Ideal.ofBits, Ideal.ieee]
  rw [← EReal.coe_mul, ← EReal.coe_one, EReal.coe_eq_coe_iff]
  norm_num

theorem recip_apply (t : IVec S_ 32) (l : Fin 16) :
    (recip (F := Ideal) t (ix1 l) : EReal) = Ideal.div 1 (((t ix0).toInt : ℝ) : EReal) := by
  unfold recip
  rw [Ref.divf_at, Ref.splat_at, one_bits]
  exact congrArg (fun k : BitVec 32 => Ideal.div 1 ((k.toInt : ℝ) : EReal)) (congrArg t (funext fun a => a.elim0))

theorem mul_recip (x : EReal) (k : BitVec 32) (hk : k ≠ 0#32) :
    x * Ideal.div 1 ((k.toInt : ℝ) : EReal) = Ideal.div x ((k.toInt : ℝ) : EReal) := by
  have h : ((k.toInt : ℝ) : EReal) ≠ 0 := by
    rw [Ne, EReal.coe_eq_zero, Int.cast_eq_zero]
    intro e
    exact hk (BitVec.eq_of_toInt_eq (e.trans (by decide)))
  unfold Ideal.div
  rw [if_neg h, if_neg h, one_mul]

/-! ## The equation -/

theorem soft_eq (x : Ref.Arr) (t : IVec S_ 32) (ht : t ix0 ≠ 0#32) (hx : ∀ j, (Ref.quot x t j : EReal) < ⊤) :
    softArr (F := Ideal) (n := 320000) (recip (F := Ideal) t) x = Ref.result x t := by
  have hq : ∀ (r : Fin 320000) (l : Fin 16), (x (ix2 r l) : EReal) * recip (F := Ideal) t (ix1 l) = Ref.quot x t (ix2 r l) := fun r l => by
    rw [recip_apply, mul_recip _ _ ht, Ref.quot_apply]
  have hrow : ∀ (r : Fin 320000) (l : Fin 16), (rowOut (F := Ideal) (recip (F := Ideal) t) (rowOf x r) (ValueIdx.ix1 l) : EReal) = Ref.result x t (ix2 r l) := fun r l => by
    have hr : ∀ k : Fin 16, (rowOf (F := Ideal) x r (ValueIdx.ix1 k) : EReal) * recip (F := Ideal) t (ValueIdx.ix1 k) = Ref.quot x t (ix2 r k) := fun k => by
      rw [← hq r k, ix2_eq_valueIdx, ix1_eq_valueIdx]; rfl
    rw [rowOut_apply, Ref.result_apply x t hx]
    simp only [hr]
  funext j
  refine (hrow (j 0) (j 1)).trans (congrArg (Ref.result x t) ?_)
  exact (ix2_eq_valueIdx (n0 := 320000) (n1 := 16) (j 0) (j 1)).trans (ValueIdx.eq_ix2 j).symm

end Cert.Proof.Softmax
-- ==== Proof.lean ====
/-
  The proof of the claim: the kernel's run (Proof/Main.lean) read at either float values for the frames, the reference's
  (Proof/Reference.lean), and the equation of what they leave (Proof/Equation.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_quotients_below_infinity
public import proofs.«01_k».proof.Proof.Main
public import proofs.«01_k».proof.Proof.Equation

@[expose] public section

noncomputable section

namespace Cert.Proof

open Idealize.ShloMosaic Idealize.SL.Sem

/-- The kernel's frame at the machine's floats, -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩) (Softmax.run_main (F := Bits) m ρ)

/-- at the extended reals, -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (Softmax.run_main (F := Ideal) m ρ)

/-- and the reference's. -/
theorem frame_reference : Cert.quiescent_ReferenceIdeal := fun m ρ _ =>
  (θ_run Cert.ReferenceIdeal.defs _ _).mono (fun _ h => ⟨fun c => (h c).2.2, funext fun s => (Softmax.Ref.no_sems.false s).elim⟩) (Softmax.Ref.run m ρ)

/-- The two programs leave equal results. -/
theorem algebra : Cert.algebraic_KernelIdeal_ReferenceIdeal_pre_quotients_below_infinity := fun m ρ m' ρ' hpre hm => by
  refine ⟨fun c => Softmax.softArr (F := Ideal) (n := 320000) (Softmax.recip (F := Ideal) (m (Softmax.tLoc c))) (m (Softmax.aLoc c)),
    fun c => Softmax.softArr (F := Ideal) (n := 320000) (Softmax.recip (F := Ideal) (m (Softmax.tLoc c))) (m (Softmax.bLoc c)),
    (θ_run Cert.KernelIdeal.defs _ _).mono (fun _ h c => ⟨(h.1 c).2.2.2.1, (h.1 c).2.2.2.2, (h.1 c).1, (h.1 c).2.1, (h.1 c).2.2.1⟩)
      (Softmax.run_main (F := Ideal) m ρ),
    (θ_run Cert.ReferenceIdeal.defs _ _).mono (fun _ h c => ⟨(h c).1.trans ?_, (h c).2.1.trans ?_, (h c).2.2⟩) (Softmax.Ref.run m' ρ')⟩
  · obtain ⟨ht, hx, -⟩ := Softmax.pre_read _ _ _ (hpre c)
    rw [(hm c).1, (hm c).2.2]
    exact (Softmax.soft_eq _ _ ht hx).symm
  · obtain ⟨ht, -, hy⟩ := Softmax.pre_read _ _ _ (hpre c)
    rw [(hm c).2.1, (hm c).2.2]
    exact (Softmax.soft_eq _ _ ht hy).symm

theorem claim : Cert.Claim :=
  ⟨Cert.Kernel.Gen.facts, Cert.KernelIdeal.Gen.facts, Cert.ReferenceIdeal.Gen.facts, Cert.Pre_quotients_below_infinity.Gen.facts,
    frame_kernel, frame_ideal, fun m ρ _ => frame_ideal m ρ trivial, frame_reference, fun m ρ _ => frame_reference m ρ trivial, trivial, algebra⟩

end Cert.Proof

end
